-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16777216 : Shape := ⟨1, ![16777216]⟩
abbrev S9 : Shape := ⟨1, ![9]⟩
abbrev S_ : Shape := ⟨0, ![]⟩
abbrev S8 : Shape := ⟨1, ![8]⟩

class Facts : Prop where
  bcast_S_S16777216 : S_.BroadcastsInDim S16777216 (![] : Fin 0 → Fin S16777216.rank)
  reducesTo_S16777216_S_d0 : S16777216.ReducesTo [0] S_
  h_S_ : 0 < S_.numel
  slices_S9_S8_0 : S9.Slices ![0] S8
  slices_S9_S8_1 : S9.Slices ![1] S8
  reducesTo_S8_S_d0 : S8.ReducesTo [0] S_

variable [Facts]

def fn {F : FTy → Type} [FloatOps F] (main_arg0 : FVec F S16777216 .f32) (main_arg1 : FVec F S9 .f32) : IVec S_ 1 :=
  let main_cst : FVec F S_ .f32 := constant S_ .f32 0x7F800000#32
  let main_v0 : FVec F S16777216 .f32 := broadcastInDim S16777216 ![] bcast_S_S16777216 main_cst
  let main_v1 : IVec S16777216 1 := cmpf .olt main_arg0 main_v0
  let main_c : IVec S_ 1 := constantI S_ 1 1#1
  let main_v2 : IVec S_ 1 := (fun x v => Host.reduce IntOp.andi x v reducesTo_S16777216_S_d0 h_S_) main_v1 main_c
  let main_v3 : FVec F S8 .f32 := (extractStridedSlice S8 ![0] · slices_S9_S8_0) main_arg1
  let main_v4 : FVec F S8 .f32 := (extractStridedSlice S8 ![1] · slices_S9_S8_1) main_arg1
  let main_v5 : IVec S8 1 := cmpf .ole main_v3 main_v4
  let main_c_0 : IVec S_ 1 := constantI S_ 1 1#1
  let main_v6 : IVec S_ 1 := (fun x v => Host.reduce IntOp.andi x v reducesTo_S8_S_d0 h_S_) main_v5 main_c_0
  let main_v7 : IVec S_ 1 := andi main_v2 main_v6
  main_v7
-- ==== Kernel.lean ====
abbrev S16777216 : Shape := ⟨1, ![16777216]⟩
abbrev S9 : Shape := ⟨1, ![9]⟩
abbrev S_ : Shape := ⟨0, ![]⟩
abbrev S7 : Shape := ⟨1, ![7]⟩
abbrev S16 : Shape := ⟨1, ![16]⟩
abbrev S16384 : Shape := ⟨1, ![16384]⟩

abbrev nBuf : Table → Nat
  | .hbm => 6
  | .local .scVector .vmem => 7
  | _ => 0

abbrev bufTy : (tb : Table) → Fin (nBuf tb) → BufTy
  | .hbm, ⟨0, _⟩ => ⟨S16777216, .f32⟩
  | .hbm, ⟨1, _⟩ => ⟨S9, .f32⟩
  | .hbm, ⟨2, _⟩ => ⟨S_, .f32⟩
  | .hbm, ⟨3, _⟩ => ⟨S7, .f32⟩
  | .hbm, ⟨4, _⟩ => ⟨S16, .f32⟩
  | .hbm, ⟨5, _⟩ => ⟨S16777216, .i32⟩
  | .local .scVector .vmem, ⟨0, _⟩ => ⟨S16, .f32⟩
  | .local .scVector .vmem, ⟨1, _⟩ => ⟨S16, .f32⟩
  | .local .scVector .vmem, ⟨2, _⟩ => ⟨S16, .f32⟩
  | .local .scVector .vmem, ⟨3, _⟩ => ⟨S16384, .f32⟩
  | .local .scVector .vmem, ⟨4, _⟩ => ⟨S16384, .f32⟩
  | .local .scVector .vmem, ⟨5, _⟩ => ⟨S16384, .i32⟩
  | .local .scVector .vmem, ⟨6, _⟩ => ⟨S16384, .i32⟩
  | _, _ => ⟨S16777216, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_arg0_scv : Ref sig .scVector := ⟨.hbm, 0, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v2 : IVec S16 32) : Prop :=
  (∀ a x, ((![v2] : Fin 1 → IVec S16 32) a x).toNat < S16.size a)
theorem k0_idx1_inb : ∀ (v2 : IVec S16 32) (k0_hw1 : k0_chk1 v2), ∀ a x, ((![v2] : Fin 1 → IVec S16 32) a x).toNat < S16.size a := fun v2 k0_hw1 => k0_hw1

def k0_chk2 (v6 : IVec S16 32) : Prop :=
  (∀ a x, ((![v6] : Fin 1 → IVec S16 32) a x).toNat < S16.size a)
theorem k0_idx2_inb : ∀ (v6 : IVec S16 32) (k0_hw2 : k0_chk2 v6), ∀ a x, ((![v6] : Fin 1 → IVec S16 32) a x).toNat < S16.size a := fun v6 k0_hw2 => k0_hw2

def k0_chk3 (v12 : IVec S16 32) : Prop :=
  (∀ a x, ((![v12] : Fin 1 → IVec S16 32) a x).toNat < S16.size a)
theorem k0_idx3_inb : ∀ (v12 : IVec S16 32) (k0_hw3 : k0_chk3 v12), ∀ a x, ((![v12] : Fin 1 → IVec S16 32) a x).toNat < S16.size a := fun v12 k0_hw3 => k0_hw3
def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v17 : BitVec 32 := Scalar.muli v1 c524288_i32
  let v18 : BitVec 32 := Scalar.addi v17 c0_i32
  ![v18.toNat]
def k0_off1_at (r : Fin 8) : BitVec 32 :=
  if r.val < 4 then
    if r.val < 2 then
      if r.val < 1 then
        0#32
      else
        16384#32
    else
      if r.val < 3 then
        32768#32
      else
        49152#32
  else
    if r.val < 6 then
      if r.val < 5 then
        491520#32
      else
        458752#32
    else
      if r.val < 7 then
        507904#32
      else
        475136#32
@[reducible] def k0_t1_loop : Scf.Loop 32 :=
  let c0_i32_2 : BitVec 32 := 0#32
  let c128_i32 : BitVec 32 := 128#32
  let v27 : BitVec 32 := Scalar.addi c0_i32_2 c128_i32
  let c1_i32_3 : BitVec 32 := 1#32
  ⟨c0_i32_2, v27, c1_i32_3⟩
def k0_off2 (k0_t1 : Fin k0_t1_loop.trips) (c0_i32_30 : BitVec 32) : Fin 1 → Nat :=
  let c0_i32_29 : BitVec 32 := 0#32
  let c0_i32_2 : BitVec 32 := 0#32
  let c1_i32_3 : BitVec 32 := 1#32
  let arg16 : BitVec 32 := Scf.iv c0_i32_2 c1_i32_3 k0_t1
  let c1_i32_28 : BitVec 32 := 1#32
  let v71 : BitVec 32 := Scalar.muli arg16 c1_i32_28
  let v72 : BitVec 32 := Scalar.addi c0_i32_29 v71
  let c8_i32 : BitVec 32 := 8#32
  let v73 : BitVec 32 := Scalar.muli v72 c8_i32
  let v74 : BitVec 32 := Scalar.addi v73 c0_i32_30
  let c16_i32 : BitVec 32 := 16#32
  let v75 : BitVec 32 := Scalar.muli v74 c16_i32
  let v97 : Index := Scalar.indexCast v75
  ![v97.toNat]

def k0_chk4 (v124 : IVec S16 32) : Prop :=
  (∀ a x, ((![v124] : Fin 1 → IVec S16 32) a x).toNat < S16.size a)
theorem k0_idx4_inb : ∀ (v124 : IVec S16 32) (k0_hw4 : k0_chk4 v124), ∀ a x, ((![v124] : Fin 1 → IVec S16 32) a x).toNat < S16.size a := fun v124 k0_hw4 => k0_hw4

def k0_chk5 (v128 : IVec S16 32) : Prop :=
  (∀ a x, ((![v128] : Fin 1 → IVec S16 32) a x).toNat < S16.size a)
theorem k0_idx5_inb : ∀ (v128 : IVec S16 32) (k0_hw5 : k0_chk5 v128), ∀ a x, ((![v128] : Fin 1 → IVec S16 32) a x).toNat < S16.size a := fun v128 k0_hw5 => k0_hw5

def k0_chk6 (v132 : IVec S16 32) : Prop :=
  (∀ a x, ((![v132] : Fin 1 → IVec S16 32) a x).toNat < S16.size a)
theorem k0_idx6_inb : ∀ (v132 : IVec S16 32) (k0_hw6 : k0_chk6 v132), ∀ a x, ((![v132] : Fin 1 → IVec S16 32) a x).toNat < S16.size a := fun v132 k0_hw6 => k0_hw6

def k0_chk7 (v136 : IVec S16 32) : Prop :=
  (∀ a x, ((![v136] : Fin 1 → IVec S16 32) a x).toNat < S16.size a)
theorem k0_idx7_inb : ∀ (v136 : IVec S16 32) (k0_hw7 : k0_chk7 v136), ∀ a x, ((![v136] : Fin 1 → IVec S16 32) a x).toNat < S16.size a := fun v136 k0_hw7 => k0_hw7

def k0_chk8 (v140 : IVec S16 32) : Prop :=
  (∀ a x, ((![v140] : Fin 1 → IVec S16 32) a x).toNat < S16.size a)
theorem k0_idx8_inb : ∀ (v140 : IVec S16 32) (k0_hw8 : k0_chk8 v140), ∀ a x, ((![v140] : Fin 1 → IVec S16 32) a x).toNat < S16.size a := fun v140 k0_hw8 => k0_hw8

def k0_chk9 (v144 : IVec S16 32) : Prop :=
  (∀ a x, ((![v144] : Fin 1 → IVec S16 32) a x).toNat < S16.size a)
theorem k0_idx9_inb : ∀ (v144 : IVec S16 32) (k0_hw9 : k0_chk9 v144), ∀ a x, ((![v144] : Fin 1 → IVec S16 32) a x).toNat < S16.size a := fun v144 k0_hw9 => k0_hw9

def k0_chk10 (v148 : IVec S16 32) : Prop :=
  (∀ a x, ((![v148] : Fin 1 → IVec S16 32) a x).toNat < S16.size a)
theorem k0_idx10_inb : ∀ (v148 : IVec S16 32) (k0_hw10 : k0_chk10 v148), ∀ a x, ((![v148] : Fin 1 → IVec S16 32) a x).toNat < S16.size a := fun v148 k0_hw10 => k0_hw10

def k0_chk11 (v152 : IVec S16 32) : Prop :=
  (∀ a x, ((![v152] : Fin 1 → IVec S16 32) a x).toNat < S16.size a)
theorem k0_idx11_inb : ∀ (v152 : IVec S16 32) (k0_hw11 : k0_chk11 v152), ∀ a x, ((![v152] : Fin 1 → IVec S16 32) a x).toNat < S16.size a := fun v152 k0_hw11 => k0_hw11

def k0_chk12 (v165 : IVec S16 32) : Prop :=
  (∀ a x, ((![v165] : Fin 1 → IVec S16 32) a x).toNat < S16.size a)
theorem k0_idx12_inb : ∀ (v165 : IVec S16 32) (k0_hw12 : k0_chk12 v165), ∀ a x, ((![v165] : Fin 1 → IVec S16 32) a x).toNat < S16.size a := fun v165 k0_hw12 => k0_hw12

def k0_chk13 (v170 : IVec S16 32) : Prop :=
  (∀ a x, ((![v170] : Fin 1 → IVec S16 32) a x).toNat < S16.size a)
theorem k0_idx13_inb : ∀ (v170 : IVec S16 32) (k0_hw13 : k0_chk13 v170), ∀ a x, ((![v170] : Fin 1 → IVec S16 32) a x).toNat < S16.size a := fun v170 k0_hw13 => k0_hw13

def k0_chk14 (v175 : IVec S16 32) : Prop :=
  (∀ a x, ((![v175] : Fin 1 → IVec S16 32) a x).toNat < S16.size a)
theorem k0_idx14_inb : ∀ (v175 : IVec S16 32) (k0_hw14 : k0_chk14 v175), ∀ a x, ((![v175] : Fin 1 → IVec S16 32) a x).toNat < S16.size a := fun v175 k0_hw14 => k0_hw14

def k0_chk15 (v180 : IVec S16 32) : Prop :=
  (∀ a x, ((![v180] : Fin 1 → IVec S16 32) a x).toNat < S16.size a)
theorem k0_idx15_inb : ∀ (v180 : IVec S16 32) (k0_hw15 : k0_chk15 v180), ∀ a x, ((![v180] : Fin 1 → IVec S16 32) a x).toNat < S16.size a := fun v180 k0_hw15 => k0_hw15

def k0_chk16 (v185 : IVec S16 32) : Prop :=
  (∀ a x, ((![v185] : Fin 1 → IVec S16 32) a x).toNat < S16.size a)
theorem k0_idx16_inb : ∀ (v185 : IVec S16 32) (k0_hw16 : k0_chk16 v185), ∀ a x, ((![v185] : Fin 1 → IVec S16 32) a x).toNat < S16.size a := fun v185 k0_hw16 => k0_hw16

def k0_chk17 (v190 : IVec S16 32) : Prop :=
  (∀ a x, ((![v190] : Fin 1 → IVec S16 32) a x).toNat < S16.size a)
theorem k0_idx17_inb : ∀ (v190 : IVec S16 32) (k0_hw17 : k0_chk17 v190), ∀ a x, ((![v190] : Fin 1 → IVec S16 32) a x).toNat < S16.size a := fun v190 k0_hw17 => k0_hw17

def k0_chk18 (v195 : IVec S16 32) : Prop :=
  (∀ a x, ((![v195] : Fin 1 → IVec S16 32) a x).toNat < S16.size a)
theorem k0_idx18_inb : ∀ (v195 : IVec S16 32) (k0_hw18 : k0_chk18 v195), ∀ a x, ((![v195] : Fin 1 → IVec S16 32) a x).toNat < S16.size a := fun v195 k0_hw18 => k0_hw18

def k0_chk19 (v200 : IVec S16 32) : Prop :=
  (∀ a x, ((![v200] : Fin 1 → IVec S16 32) a x).toNat < S16.size a)
theorem k0_idx19_inb : ∀ (v200 : IVec S16 32) (k0_hw19 : k0_chk19 v200), ∀ a x, ((![v200] : Fin 1 → IVec S16 32) a x).toNat < S16.size a := fun v200 k0_hw19 => k0_hw19

def k0_chk20 (v213 : IVec S16 32) : Prop :=
  (∀ a x, ((![v213] : Fin 1 → IVec S16 32) a x).toNat < S16.size a)
theorem k0_idx20_inb : ∀ (v213 : IVec S16 32) (k0_hw20 : k0_chk20 v213), ∀ a x, ((![v213] : Fin 1 → IVec S16 32) a x).toNat < S16.size a := fun v213 k0_hw20 => k0_hw20

def k0_chk21 (v218 : IVec S16 32) : Prop :=
  (∀ a x, ((![v218] : Fin 1 → IVec S16 32) a x).toNat < S16.size a)
theorem k0_idx21_inb : ∀ (v218 : IVec S16 32) (k0_hw21 : k0_chk21 v218), ∀ a x, ((![v218] : Fin 1 → IVec S16 32) a x).toNat < S16.size a := fun v218 k0_hw21 => k0_hw21

def k0_chk22 (v223 : IVec S16 32) : Prop :=
  (∀ a x, ((![v223] : Fin 1 → IVec S16 32) a x).toNat < S16.size a)
theorem k0_idx22_inb : ∀ (v223 : IVec S16 32) (k0_hw22 : k0_chk22 v223), ∀ a x, ((![v223] : Fin 1 → IVec S16 32) a x).toNat < S16.size a := fun v223 k0_hw22 => k0_hw22

def k0_chk23 (v228 : IVec S16 32) : Prop :=
  (∀ a x, ((![v228] : Fin 1 → IVec S16 32) a x).toNat < S16.size a)
theorem k0_idx23_inb : ∀ (v228 : IVec S16 32) (k0_hw23 : k0_chk23 v228), ∀ a x, ((![v228] : Fin 1 → IVec S16 32) a x).toNat < S16.size a := fun v228 k0_hw23 => k0_hw23

def k0_chk24 (v233 : IVec S16 32) : Prop :=
  (∀ a x, ((![v233] : Fin 1 → IVec S16 32) a x).toNat < S16.size a)
theorem k0_idx24_inb : ∀ (v233 : IVec S16 32) (k0_hw24 : k0_chk24 v233), ∀ a x, ((![v233] : Fin 1 → IVec S16 32) a x).toNat < S16.size a := fun v233 k0_hw24 => k0_hw24

def k0_chk25 (v238 : IVec S16 32) : Prop :=
  (∀ a x, ((![v238] : Fin 1 → IVec S16 32) a x).toNat < S16.size a)
theorem k0_idx25_inb : ∀ (v238 : IVec S16 32) (k0_hw25 : k0_chk25 v238), ∀ a x, ((![v238] : Fin 1 → IVec S16 32) a x).toNat < S16.size a := fun v238 k0_hw25 => k0_hw25

def k0_chk26 (v243 : IVec S16 32) : Prop :=
  (∀ a x, ((![v243] : Fin 1 → IVec S16 32) a x).toNat < S16.size a)
theorem k0_idx26_inb : ∀ (v243 : IVec S16 32) (k0_hw26 : k0_chk26 v243), ∀ a x, ((![v243] : Fin 1 → IVec S16 32) a x).toNat < S16.size a := fun v243 k0_hw26 => k0_hw26

def k0_chk27 (v248 : IVec S16 32) : Prop :=
  (∀ a x, ((![v248] : Fin 1 → IVec S16 32) a x).toNat < S16.size a)
theorem k0_idx27_inb : ∀ (v248 : IVec S16 32) (k0_hw27 : k0_chk27 v248), ∀ a x, ((![v248] : Fin 1 → IVec S16 32) a x).toNat < S16.size a := fun v248 k0_hw27 => k0_hw27
def k0_off3 (k0_t1 : Fin k0_t1_loop.trips) (c0_i32_30 : BitVec 32) : Fin 1 → Nat :=
  let c0_i32_29 : BitVec 32 := 0#32
  let c0_i32_2 : BitVec 32 := 0#32
  let c1_i32_3 : BitVec 32 := 1#32
  let arg16 : BitVec 32 := Scf.iv c0_i32_2 c1_i32_3 k0_t1
  let c1_i32_28 : BitVec 32 := 1#32
  let v71 : BitVec 32 := Scalar.muli arg16 c1_i32_28
  let v72 : BitVec 32 := Scalar.addi c0_i32_29 v71
  let c8_i32 : BitVec 32 := 8#32
  let v73 : BitVec 32 := Scalar.muli v72 c8_i32
  let v74 : BitVec 32 := Scalar.addi v73 c0_i32_30
  let c16_i32 : BitVec 32 := 16#32
  let v75 : BitVec 32 := Scalar.muli v74 c16_i32
  let v297 : Index := Scalar.indexCast v75
  ![v297.toNat]
@[reducible] def k0_t2_loop : Scf.Loop 32 :=
  let c0_i32_7 : BitVec 32 := 0#32
  let c128_i32_8 : BitVec 32 := 128#32
  let v37 : BitVec 32 := Scalar.addi c0_i32_7 c128_i32_8
  let c1_i32_9 : BitVec 32 := 1#32
  ⟨c0_i32_7, v37, c1_i32_9⟩
def k0_off4 (k0_t2 : Fin k0_t2_loop.trips) (c0_i32_30 : BitVec 32) : Fin 1 → Nat :=
  let c0_i32_29 : BitVec 32 := 0#32
  let c0_i32_7 : BitVec 32 := 0#32
  let c1_i32_9 : BitVec 32 := 1#32
  let arg16 : BitVec 32 := Scf.iv c0_i32_7 c1_i32_9 k0_t2
  let c1_i32_28 : BitVec 32 := 1#32
  let v71 : BitVec 32 := Scalar.muli arg16 c1_i32_28
  let v72 : BitVec 32 := Scalar.addi c0_i32_29 v71
  let c8_i32 : BitVec 32 := 8#32
  let v73 : BitVec 32 := Scalar.muli v72 c8_i32
  let v74 : BitVec 32 := Scalar.addi v73 c0_i32_30
  let c16_i32 : BitVec 32 := 16#32
  let v75 : BitVec 32 := Scalar.muli v74 c16_i32
  let v97 : Index := Scalar.indexCast v75
  ![v97.toNat]

def k0_chk28 (v124 : IVec S16 32) : Prop :=
  (∀ a x, ((![v124] : Fin 1 → IVec S16 32) a x).toNat < S16.size a)
theorem k0_idx28_inb : ∀ (v124 : IVec S16 32) (k0_hw28 : k0_chk28 v124), ∀ a x, ((![v124] : Fin 1 → IVec S16 32) a x).toNat < S16.size a := fun v124 k0_hw28 => k0_hw28

def k0_chk29 (v128 : IVec S16 32) : Prop :=
  (∀ a x, ((![v128] : Fin 1 → IVec S16 32) a x).toNat < S16.size a)
theorem k0_idx29_inb : ∀ (v128 : IVec S16 32) (k0_hw29 : k0_chk29 v128), ∀ a x, ((![v128] : Fin 1 → IVec S16 32) a x).toNat < S16.size a := fun v128 k0_hw29 => k0_hw29

def k0_chk30 (v132 : IVec S16 32) : Prop :=
  (∀ a x, ((![v132] : Fin 1 → IVec S16 32) a x).toNat < S16.size a)
theorem k0_idx30_inb : ∀ (v132 : IVec S16 32) (k0_hw30 : k0_chk30 v132), ∀ a x, ((![v132] : Fin 1 → IVec S16 32) a x).toNat < S16.size a := fun v132 k0_hw30 => k0_hw30

def k0_chk31 (v136 : IVec S16 32) : Prop :=
  (∀ a x, ((![v136] : Fin 1 → IVec S16 32) a x).toNat < S16.size a)
theorem k0_idx31_inb : ∀ (v136 : IVec S16 32) (k0_hw31 : k0_chk31 v136), ∀ a x, ((![v136] : Fin 1 → IVec S16 32) a x).toNat < S16.size a := fun v136 k0_hw31 => k0_hw31

def k0_chk32 (v140 : IVec S16 32) : Prop :=
  (∀ a x, ((![v140] : Fin 1 → IVec S16 32) a x).toNat < S16.size a)
theorem k0_idx32_inb : ∀ (v140 : IVec S16 32) (k0_hw32 : k0_chk32 v140), ∀ a x, ((![v140] : Fin 1 → IVec S16 32) a x).toNat < S16.size a := fun v140 k0_hw32 => k0_hw32

def k0_chk33 (v144 : IVec S16 32) : Prop :=
  (∀ a x, ((![v144] : Fin 1 → IVec S16 32) a x).toNat < S16.size a)
theorem k0_idx33_inb : ∀ (v144 : IVec S16 32) (k0_hw33 : k0_chk33 v144), ∀ a x, ((![v144] : Fin 1 → IVec S16 32) a x).toNat < S16.size a := fun v144 k0_hw33 => k0_hw33

def k0_chk34 (v148 : IVec S16 32) : Prop :=
  (∀ a x, ((![v148] : Fin 1 → IVec S16 32) a x).toNat < S16.size a)
theorem k0_idx34_inb : ∀ (v148 : IVec S16 32) (k0_hw34 : k0_chk34 v148), ∀ a x, ((![v148] : Fin 1 → IVec S16 32) a x).toNat < S16.size a := fun v148 k0_hw34 => k0_hw34

def k0_chk35 (v152 : IVec S16 32) : Prop :=
  (∀ a x, ((![v152] : Fin 1 → IVec S16 32) a x).toNat < S16.size a)
theorem k0_idx35_inb : ∀ (v152 : IVec S16 32) (k0_hw35 : k0_chk35 v152), ∀ a x, ((![v152] : Fin 1 → IVec S16 32) a x).toNat < S16.size a := fun v152 k0_hw35 => k0_hw35

def k0_chk36 (v165 : IVec S16 32) : Prop :=
  (∀ a x, ((![v165] : Fin 1 → IVec S16 32) a x).toNat < S16.size a)
theorem k0_idx36_inb : ∀ (v165 : IVec S16 32) (k0_hw36 : k0_chk36 v165), ∀ a x, ((![v165] : Fin 1 → IVec S16 32) a x).toNat < S16.size a := fun v165 k0_hw36 => k0_hw36

def k0_chk37 (v170 : IVec S16 32) : Prop :=
  (∀ a x, ((![v170] : Fin 1 → IVec S16 32) a x).toNat < S16.size a)
theorem k0_idx37_inb : ∀ (v170 : IVec S16 32) (k0_hw37 : k0_chk37 v170), ∀ a x, ((![v170] : Fin 1 → IVec S16 32) a x).toNat < S16.size a := fun v170 k0_hw37 => k0_hw37

def k0_chk38 (v175 : IVec S16 32) : Prop :=
  (∀ a x, ((![v175] : Fin 1 → IVec S16 32) a x).toNat < S16.size a)
theorem k0_idx38_inb : ∀ (v175 : IVec S16 32) (k0_hw38 : k0_chk38 v175), ∀ a x, ((![v175] : Fin 1 → IVec S16 32) a x).toNat < S16.size a := fun v175 k0_hw38 => k0_hw38

def k0_chk39 (v180 : IVec S16 32) : Prop :=
  (∀ a x, ((![v180] : Fin 1 → IVec S16 32) a x).toNat < S16.size a)
theorem k0_idx39_inb : ∀ (v180 : IVec S16 32) (k0_hw39 : k0_chk39 v180), ∀ a x, ((![v180] : Fin 1 → IVec S16 32) a x).toNat < S16.size a := fun v180 k0_hw39 => k0_hw39

def k0_chk40 (v185 : IVec S16 32) : Prop :=
  (∀ a x, ((![v185] : Fin 1 → IVec S16 32) a x).toNat < S16.size a)
theorem k0_idx40_inb : ∀ (v185 : IVec S16 32) (k0_hw40 : k0_chk40 v185), ∀ a x, ((![v185] : Fin 1 → IVec S16 32) a x).toNat < S16.size a := fun v185 k0_hw40 => k0_hw40

def k0_chk41 (v190 : IVec S16 32) : Prop :=
  (∀ a x, ((![v190] : Fin 1 → IVec S16 32) a x).toNat < S16.size a)
theorem k0_idx41_inb : ∀ (v190 : IVec S16 32) (k0_hw41 : k0_chk41 v190), ∀ a x, ((![v190] : Fin 1 → IVec S16 32) a x).toNat < S16.size a := fun v190 k0_hw41 => k0_hw41

def k0_chk42 (v195 : IVec S16 32) : Prop :=
  (∀ a x, ((![v195] : Fin 1 → IVec S16 32) a x).toNat < S16.size a)
theorem k0_idx42_inb : ∀ (v195 : IVec S16 32) (k0_hw42 : k0_chk42 v195), ∀ a x, ((![v195] : Fin 1 → IVec S16 32) a x).toNat < S16.size a := fun v195 k0_hw42 => k0_hw42

def k0_chk43 (v200 : IVec S16 32) : Prop :=
  (∀ a x, ((![v200] : Fin 1 → IVec S16 32) a x).toNat < S16.size a)
theorem k0_idx43_inb : ∀ (v200 : IVec S16 32) (k0_hw43 : k0_chk43 v200), ∀ a x, ((![v200] : Fin 1 → IVec S16 32) a x).toNat < S16.size a := fun v200 k0_hw43 => k0_hw43

def k0_chk44 (v213 : IVec S16 32) : Prop :=
  (∀ a x, ((![v213] : Fin 1 → IVec S16 32) a x).toNat < S16.size a)
theorem k0_idx44_inb : ∀ (v213 : IVec S16 32) (k0_hw44 : k0_chk44 v213), ∀ a x, ((![v213] : Fin 1 → IVec S16 32) a x).toNat < S16.size a := fun v213 k0_hw44 => k0_hw44

def k0_chk45 (v218 : IVec S16 32) : Prop :=
  (∀ a x, ((![v218] : Fin 1 → IVec S16 32) a x).toNat < S16.size a)
theorem k0_idx45_inb : ∀ (v218 : IVec S16 32) (k0_hw45 : k0_chk45 v218), ∀ a x, ((![v218] : Fin 1 → IVec S16 32) a x).toNat < S16.size a := fun v218 k0_hw45 => k0_hw45

def k0_chk46 (v223 : IVec S16 32) : Prop :=
  (∀ a x, ((![v223] : Fin 1 → IVec S16 32) a x).toNat < S16.size a)
theorem k0_idx46_inb : ∀ (v223 : IVec S16 32) (k0_hw46 : k0_chk46 v223), ∀ a x, ((![v223] : Fin 1 → IVec S16 32) a x).toNat < S16.size a := fun v223 k0_hw46 => k0_hw46

def k0_chk47 (v228 : IVec S16 32) : Prop :=
  (∀ a x, ((![v228] : Fin 1 → IVec S16 32) a x).toNat < S16.size a)
theorem k0_idx47_inb : ∀ (v228 : IVec S16 32) (k0_hw47 : k0_chk47 v228), ∀ a x, ((![v228] : Fin 1 → IVec S16 32) a x).toNat < S16.size a := fun v228 k0_hw47 => k0_hw47

def k0_chk48 (v233 : IVec S16 32) : Prop :=
  (∀ a x, ((![v233] : Fin 1 → IVec S16 32) a x).toNat < S16.size a)
theorem k0_idx48_inb : ∀ (v233 : IVec S16 32) (k0_hw48 : k0_chk48 v233), ∀ a x, ((![v233] : Fin 1 → IVec S16 32) a x).toNat < S16.size a := fun v233 k0_hw48 => k0_hw48

def k0_chk49 (v238 : IVec S16 32) : Prop :=
  (∀ a x, ((![v238] : Fin 1 → IVec S16 32) a x).toNat < S16.size a)
theorem k0_idx49_inb : ∀ (v238 : IVec S16 32) (k0_hw49 : k0_chk49 v238), ∀ a x, ((![v238] : Fin 1 → IVec S16 32) a x).toNat < S16.size a := fun v238 k0_hw49 => k0_hw49

def k0_chk50 (v243 : IVec S16 32) : Prop :=
  (∀ a x, ((![v243] : Fin 1 → IVec S16 32) a x).toNat < S16.size a)
theorem k0_idx50_inb : ∀ (v243 : IVec S16 32) (k0_hw50 : k0_chk50 v243), ∀ a x, ((![v243] : Fin 1 → IVec S16 32) a x).toNat < S16.size a := fun v243 k0_hw50 => k0_hw50

def k0_chk51 (v248 : IVec S16 32) : Prop :=
  (∀ a x, ((![v248] : Fin 1 → IVec S16 32) a x).toNat < S16.size a)
theorem k0_idx51_inb : ∀ (v248 : IVec S16 32) (k0_hw51 : k0_chk51 v248), ∀ a x, ((![v248] : Fin 1 → IVec S16 32) a x).toNat < S16.size a := fun v248 k0_hw51 => k0_hw51
def k0_off5 (k0_t2 : Fin k0_t2_loop.trips) (c0_i32_30 : BitVec 32) : Fin 1 → Nat :=
  let c0_i32_29 : BitVec 32 := 0#32
  let c0_i32_7 : BitVec 32 := 0#32
  let c1_i32_9 : BitVec 32 := 1#32
  let arg16 : BitVec 32 := Scf.iv c0_i32_7 c1_i32_9 k0_t2
  let c1_i32_28 : BitVec 32 := 1#32
  let v71 : BitVec 32 := Scalar.muli arg16 c1_i32_28
  let v72 : BitVec 32 := Scalar.addi c0_i32_29 v71
  let c8_i32 : BitVec 32 := 8#32
  let v73 : BitVec 32 := Scalar.muli v72 c8_i32
  let v74 : BitVec 32 := Scalar.addi v73 c0_i32_30
  let c16_i32 : BitVec 32 := 16#32
  let v75 : BitVec 32 := Scalar.muli v74 c16_i32
  let v297 : Index := Scalar.indexCast v75
  ![v297.toNat]
@[reducible] def k0_t3_loop : Scf.Loop 32 :=
  let c1_i32_13 : BitVec 32 := 1#32
  let c14_i32 : BitVec 32 := 14#32
  let v44 : BitVec 32 := Scalar.addi c1_i32_13 c14_i32
  let c1_i32_14 : BitVec 32 := 1#32
  ⟨c1_i32_13, v44, c1_i32_14⟩
def k0_off6 (i : grid0.Coords) (k0_t3 : Fin k0_t3_loop.trips) (c0_i32_29 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v17 : BitVec 32 := Scalar.muli v1 c524288_i32
  let c2_i32_28 : BitVec 32 := 2#32
  let c1_i32_13 : BitVec 32 := 1#32
  let c1_i32_14 : BitVec 32 := 1#32
  let arg16 : BitVec 32 := Scf.iv c1_i32_13 c1_i32_14 k0_t3
  let v71 : BitVec 32 := Scalar.muli c2_i32_28 arg16
  let v72 : BitVec 32 := Scalar.addi v71 c0_i32_29
  let c16384_i32_30 : BitVec 32 := 16384#32
  let v73 : BitVec 32 := Scalar.muli v72 c16384_i32_30
  let v74 : BitVec 32 := Scalar.addi v17 v73
  ![v74.toNat]
def k0_off7 (i : grid0.Coords) (k0_t3 : Fin k0_t3_loop.trips) (c0_i32_29 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v17 : BitVec 32 := Scalar.muli v1 c524288_i32
  let c2_i32_28 : BitVec 32 := 2#32
  let c1_i32_13 : BitVec 32 := 1#32
  let c1_i32_14 : BitVec 32 := 1#32
  let arg16 : BitVec 32 := Scf.iv c1_i32_13 c1_i32_14 k0_t3
  let v71 : BitVec 32 := Scalar.muli c2_i32_28 arg16
  let v72 : BitVec 32 := Scalar.addi v71 c0_i32_29
  let c2_i32_31 : BitVec 32 := 2#32
  let v77 : BitVec 32 := Scalar.subi v72 c2_i32_31
  let c16384_i32_32 : BitVec 32 := 16384#32
  let v78 : BitVec 32 := Scalar.muli v77 c16384_i32_32
  let v79 : BitVec 32 := Scalar.addi v17 v78
  ![v79.toNat]
@[reducible] def k0_t4_loop : Scf.Loop 32 :=
  let c0_i32_33 : BitVec 32 := 0#32
  let c128_i32_34 : BitVec 32 := 128#32
  let v82 : BitVec 32 := Scalar.addi c0_i32_33 c128_i32_34
  let c1_i32_35 : BitVec 32 := 1#32
  ⟨c0_i32_33, v82, c1_i32_35⟩
def k0_off8 (k0_t4 : Fin k0_t4_loop.trips) (c0_i32_54 : BitVec 32) : Fin 1 → Nat :=
  let c0_i32_53 : BitVec 32 := 0#32
  let c0_i32_33 : BitVec 32 := 0#32
  let c1_i32_35 : BitVec 32 := 1#32
  let arg17 : BitVec 32 := Scf.iv c0_i32_33 c1_i32_35 k0_t4
  let c1_i32_52 : BitVec 32 := 1#32
  let v113 : BitVec 32 := Scalar.muli arg17 c1_i32_52
  let v114 : BitVec 32 := Scalar.addi c0_i32_53 v113
  let c8_i32 : BitVec 32 := 8#32
  let v115 : BitVec 32 := Scalar.muli v114 c8_i32
  let v116 : BitVec 32 := Scalar.addi v115 c0_i32_54
  let c16_i32 : BitVec 32 := 16#32
  let v117 : BitVec 32 := Scalar.muli v116 c16_i32
  let v139 : Index := Scalar.indexCast v117
  ![v139.toNat]

def k0_chk52 (v166 : IVec S16 32) : Prop :=
  (∀ a x, ((![v166] : Fin 1 → IVec S16 32) a x).toNat < S16.size a)
theorem k0_idx52_inb : ∀ (v166 : IVec S16 32) (k0_hw52 : k0_chk52 v166), ∀ a x, ((![v166] : Fin 1 → IVec S16 32) a x).toNat < S16.size a := fun v166 k0_hw52 => k0_hw52

def k0_chk53 (v170 : IVec S16 32) : Prop :=
  (∀ a x, ((![v170] : Fin 1 → IVec S16 32) a x).toNat < S16.size a)
theorem k0_idx53_inb : ∀ (v170 : IVec S16 32) (k0_hw53 : k0_chk53 v170), ∀ a x, ((![v170] : Fin 1 → IVec S16 32) a x).toNat < S16.size a := fun v170 k0_hw53 => k0_hw53

def k0_chk54 (v174 : IVec S16 32) : Prop :=
  (∀ a x, ((![v174] : Fin 1 → IVec S16 32) a x).toNat < S16.size a)
theorem k0_idx54_inb : ∀ (v174 : IVec S16 32) (k0_hw54 : k0_chk54 v174), ∀ a x, ((![v174] : Fin 1 → IVec S16 32) a x).toNat < S16.size a := fun v174 k0_hw54 => k0_hw54

def k0_chk55 (v178 : IVec S16 32) : Prop :=
  (∀ a x, ((![v178] : Fin 1 → IVec S16 32) a x).toNat < S16.size a)
theorem k0_idx55_inb : ∀ (v178 : IVec S16 32) (k0_hw55 : k0_chk55 v178), ∀ a x, ((![v178] : Fin 1 → IVec S16 32) a x).toNat < S16.size a := fun v178 k0_hw55 => k0_hw55

def k0_chk56 (v182 : IVec S16 32) : Prop :=
  (∀ a x, ((![v182] : Fin 1 → IVec S16 32) a x).toNat < S16.size a)
theorem k0_idx56_inb : ∀ (v182 : IVec S16 32) (k0_hw56 : k0_chk56 v182), ∀ a x, ((![v182] : Fin 1 → IVec S16 32) a x).toNat < S16.size a := fun v182 k0_hw56 => k0_hw56

def k0_chk57 (v186 : IVec S16 32) : Prop :=
  (∀ a x, ((![v186] : Fin 1 → IVec S16 32) a x).toNat < S16.size a)
theorem k0_idx57_inb : ∀ (v186 : IVec S16 32) (k0_hw57 : k0_chk57 v186), ∀ a x, ((![v186] : Fin 1 → IVec S16 32) a x).toNat < S16.size a := fun v186 k0_hw57 => k0_hw57

def k0_chk58 (v190 : IVec S16 32) : Prop :=
  (∀ a x, ((![v190] : Fin 1 → IVec S16 32) a x).toNat < S16.size a)
theorem k0_idx58_inb : ∀ (v190 : IVec S16 32) (k0_hw58 : k0_chk58 v190), ∀ a x, ((![v190] : Fin 1 → IVec S16 32) a x).toNat < S16.size a := fun v190 k0_hw58 => k0_hw58

def k0_chk59 (v194 : IVec S16 32) : Prop :=
  (∀ a x, ((![v194] : Fin 1 → IVec S16 32) a x).toNat < S16.size a)
theorem k0_idx59_inb : ∀ (v194 : IVec S16 32) (k0_hw59 : k0_chk59 v194), ∀ a x, ((![v194] : Fin 1 → IVec S16 32) a x).toNat < S16.size a := fun v194 k0_hw59 => k0_hw59

def k0_chk60 (v207 : IVec S16 32) : Prop :=
  (∀ a x, ((![v207] : Fin 1 → IVec S16 32) a x).toNat < S16.size a)
theorem k0_idx60_inb : ∀ (v207 : IVec S16 32) (k0_hw60 : k0_chk60 v207), ∀ a x, ((![v207] : Fin 1 → IVec S16 32) a x).toNat < S16.size a := fun v207 k0_hw60 => k0_hw60

def k0_chk61 (v212 : IVec S16 32) : Prop :=
  (∀ a x, ((![v212] : Fin 1 → IVec S16 32) a x).toNat < S16.size a)
theorem k0_idx61_inb : ∀ (v212 : IVec S16 32) (k0_hw61 : k0_chk61 v212), ∀ a x, ((![v212] : Fin 1 → IVec S16 32) a x).toNat < S16.size a := fun v212 k0_hw61 => k0_hw61

def k0_chk62 (v217 : IVec S16 32) : Prop :=
  (∀ a x, ((![v217] : Fin 1 → IVec S16 32) a x).toNat < S16.size a)
theorem k0_idx62_inb : ∀ (v217 : IVec S16 32) (k0_hw62 : k0_chk62 v217), ∀ a x, ((![v217] : Fin 1 → IVec S16 32) a x).toNat < S16.size a := fun v217 k0_hw62 => k0_hw62

def k0_chk63 (v222 : IVec S16 32) : Prop :=
  (∀ a x, ((![v222] : Fin 1 → IVec S16 32) a x).toNat < S16.size a)
theorem k0_idx63_inb : ∀ (v222 : IVec S16 32) (k0_hw63 : k0_chk63 v222), ∀ a x, ((![v222] : Fin 1 → IVec S16 32) a x).toNat < S16.size a := fun v222 k0_hw63 => k0_hw63

def k0_chk64 (v227 : IVec S16 32) : Prop :=
  (∀ a x, ((![v227] : Fin 1 → IVec S16 32) a x).toNat < S16.size a)
theorem k0_idx64_inb : ∀ (v227 : IVec S16 32) (k0_hw64 : k0_chk64 v227), ∀ a x, ((![v227] : Fin 1 → IVec S16 32) a x).toNat < S16.size a := fun v227 k0_hw64 => k0_hw64

def k0_chk65 (v232 : IVec S16 32) : Prop :=
  (∀ a x, ((![v232] : Fin 1 → IVec S16 32) a x).toNat < S16.size a)
theorem k0_idx65_inb : ∀ (v232 : IVec S16 32) (k0_hw65 : k0_chk65 v232), ∀ a x, ((![v232] : Fin 1 → IVec S16 32) a x).toNat < S16.size a := fun v232 k0_hw65 => k0_hw65

def k0_chk66 (v237 : IVec S16 32) : Prop :=
  (∀ a x, ((![v237] : Fin 1 → IVec S16 32) a x).toNat < S16.size a)
theorem k0_idx66_inb : ∀ (v237 : IVec S16 32) (k0_hw66 : k0_chk66 v237), ∀ a x, ((![v237] : Fin 1 → IVec S16 32) a x).toNat < S16.size a := fun v237 k0_hw66 => k0_hw66

def k0_chk67 (v242 : IVec S16 32) : Prop :=
  (∀ a x, ((![v242] : Fin 1 → IVec S16 32) a x).toNat < S16.size a)
theorem k0_idx67_inb : ∀ (v242 : IVec S16 32) (k0_hw67 : k0_chk67 v242), ∀ a x, ((![v242] : Fin 1 → IVec S16 32) a x).toNat < S16.size a := fun v242 k0_hw67 => k0_hw67

def k0_chk68 (v255 : IVec S16 32) : Prop :=
  (∀ a x, ((![v255] : Fin 1 → IVec S16 32) a x).toNat < S16.size a)
theorem k0_idx68_inb : ∀ (v255 : IVec S16 32) (k0_hw68 : k0_chk68 v255), ∀ a x, ((![v255] : Fin 1 → IVec S16 32) a x).toNat < S16.size a := fun v255 k0_hw68 => k0_hw68

def k0_chk69 (v260 : IVec S16 32) : Prop :=
  (∀ a x, ((![v260] : Fin 1 → IVec S16 32) a x).toNat < S16.size a)
theorem k0_idx69_inb : ∀ (v260 : IVec S16 32) (k0_hw69 : k0_chk69 v260), ∀ a x, ((![v260] : Fin 1 → IVec S16 32) a x).toNat < S16.size a := fun v260 k0_hw69 => k0_hw69

def k0_chk70 (v265 : IVec S16 32) : Prop :=
  (∀ a x, ((![v265] : Fin 1 → IVec S16 32) a x).toNat < S16.size a)
theorem k0_idx70_inb : ∀ (v265 : IVec S16 32) (k0_hw70 : k0_chk70 v265), ∀ a x, ((![v265] : Fin 1 → IVec S16 32) a x).toNat < S16.size a := fun v265 k0_hw70 => k0_hw70

def k0_chk71 (v270 : IVec S16 32) : Prop :=
  (∀ a x, ((![v270] : Fin 1 → IVec S16 32) a x).toNat < S16.size a)
theorem k0_idx71_inb : ∀ (v270 : IVec S16 32) (k0_hw71 : k0_chk71 v270), ∀ a x, ((![v270] : Fin 1 → IVec S16 32) a x).toNat < S16.size a := fun v270 k0_hw71 => k0_hw71

def k0_chk72 (v275 : IVec S16 32) : Prop :=
  (∀ a x, ((![v275] : Fin 1 → IVec S16 32) a x).toNat < S16.size a)
theorem k0_idx72_inb : ∀ (v275 : IVec S16 32) (k0_hw72 : k0_chk72 v275), ∀ a x, ((![v275] : Fin 1 → IVec S16 32) a x).toNat < S16.size a := fun v275 k0_hw72 => k0_hw72

def k0_chk73 (v280 : IVec S16 32) : Prop :=
  (∀ a x, ((![v280] : Fin 1 → IVec S16 32) a x).toNat < S16.size a)
theorem k0_idx73_inb : ∀ (v280 : IVec S16 32) (k0_hw73 : k0_chk73 v280), ∀ a x, ((![v280] : Fin 1 → IVec S16 32) a x).toNat < S16.size a := fun v280 k0_hw73 => k0_hw73

def k0_chk74 (v285 : IVec S16 32) : Prop :=
  (∀ a x, ((![v285] : Fin 1 → IVec S16 32) a x).toNat < S16.size a)
theorem k0_idx74_inb : ∀ (v285 : IVec S16 32) (k0_hw74 : k0_chk74 v285), ∀ a x, ((![v285] : Fin 1 → IVec S16 32) a x).toNat < S16.size a := fun v285 k0_hw74 => k0_hw74

def k0_chk75 (v290 : IVec S16 32) : Prop :=
  (∀ a x, ((![v290] : Fin 1 → IVec S16 32) a x).toNat < S16.size a)
theorem k0_idx75_inb : ∀ (v290 : IVec S16 32) (k0_hw75 : k0_chk75 v290), ∀ a x, ((![v290] : Fin 1 → IVec S16 32) a x).toNat < S16.size a := fun v290 k0_hw75 => k0_hw75
def k0_off9 (k0_t4 : Fin k0_t4_loop.trips) (c0_i32_54 : BitVec 32) : Fin 1 → Nat :=
  let c0_i32_53 : BitVec 32 := 0#32
  let c0_i32_33 : BitVec 32 := 0#32
  let c1_i32_35 : BitVec 32 := 1#32
  let arg17 : BitVec 32 := Scf.iv c0_i32_33 c1_i32_35 k0_t4
  let c1_i32_52 : BitVec 32 := 1#32
  let v113 : BitVec 32 := Scalar.muli arg17 c1_i32_52
  let v114 : BitVec 32 := Scalar.addi c0_i32_53 v113
  let c8_i32 : BitVec 32 := 8#32
  let v115 : BitVec 32 := Scalar.muli v114 c8_i32
  let v116 : BitVec 32 := Scalar.addi v115 c0_i32_54
  let c16_i32 : BitVec 32 := 16#32
  let v117 : BitVec 32 := Scalar.muli v116 c16_i32
  let v339 : Index := Scalar.indexCast v117
  ![v339.toNat]
def k0_off10 (i : grid0.Coords) (k0_t3 : Fin k0_t3_loop.trips) (c0_i32_29 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v17 : BitVec 32 := Scalar.muli v1 c524288_i32
  let c2_i32_28 : BitVec 32 := 2#32
  let c1_i32_13 : BitVec 32 := 1#32
  let c1_i32_14 : BitVec 32 := 1#32
  let arg16 : BitVec 32 := Scf.iv c1_i32_13 c1_i32_14 k0_t3
  let v71 : BitVec 32 := Scalar.muli c2_i32_28 arg16
  let v72 : BitVec 32 := Scalar.addi v71 c0_i32_29
  let c2_i32_38 : BitVec 32 := 2#32
  let v87 : BitVec 32 := Scalar.addi v72 c2_i32_38
  let c16384_i32_39 : BitVec 32 := 16384#32
  let v88 : BitVec 32 := Scalar.muli v87 c16384_i32_39
  let v89 : BitVec 32 := Scalar.addi v17 v88
  ![v89.toNat]
@[reducible] def k0_t5_loop : Scf.Loop 32 :=
  let c0_i32_45 : BitVec 32 := 0#32
  let c128_i32_46 : BitVec 32 := 128#32
  let v103 : BitVec 32 := Scalar.addi c0_i32_45 c128_i32_46
  let c1_i32_47 : BitVec 32 := 1#32
  ⟨c0_i32_45, v103, c1_i32_47⟩
def k0_off11 (k0_t5 : Fin k0_t5_loop.trips) (c0_i32_54 : BitVec 32) : Fin 1 → Nat :=
  let c0_i32_53 : BitVec 32 := 0#32
  let c0_i32_45 : BitVec 32 := 0#32
  let c1_i32_47 : BitVec 32 := 1#32
  let arg17 : BitVec 32 := Scf.iv c0_i32_45 c1_i32_47 k0_t5
  let c1_i32_52 : BitVec 32 := 1#32
  let v113 : BitVec 32 := Scalar.muli arg17 c1_i32_52
  let v114 : BitVec 32 := Scalar.addi c0_i32_53 v113
  let c8_i32 : BitVec 32 := 8#32
  let v115 : BitVec 32 := Scalar.muli v114 c8_i32
  let v116 : BitVec 32 := Scalar.addi v115 c0_i32_54
  let c16_i32 : BitVec 32 := 16#32
  let v117 : BitVec 32 := Scalar.muli v116 c16_i32
  let v139 : Index := Scalar.indexCast v117
  ![v139.toNat]

def k0_chk76 (v166 : IVec S16 32) : Prop :=
  (∀ a x, ((![v166] : Fin 1 → IVec S16 32) a x).toNat < S16.size a)
theorem k0_idx76_inb : ∀ (v166 : IVec S16 32) (k0_hw76 : k0_chk76 v166), ∀ a x, ((![v166] : Fin 1 → IVec S16 32) a x).toNat < S16.size a := fun v166 k0_hw76 => k0_hw76

def k0_chk77 (v170 : IVec S16 32) : Prop :=
  (∀ a x, ((![v170] : Fin 1 → IVec S16 32) a x).toNat < S16.size a)
theorem k0_idx77_inb : ∀ (v170 : IVec S16 32) (k0_hw77 : k0_chk77 v170), ∀ a x, ((![v170] : Fin 1 → IVec S16 32) a x).toNat < S16.size a := fun v170 k0_hw77 => k0_hw77

def k0_chk78 (v174 : IVec S16 32) : Prop :=
  (∀ a x, ((![v174] : Fin 1 → IVec S16 32) a x).toNat < S16.size a)
theorem k0_idx78_inb : ∀ (v174 : IVec S16 32) (k0_hw78 : k0_chk78 v174), ∀ a x, ((![v174] : Fin 1 → IVec S16 32) a x).toNat < S16.size a := fun v174 k0_hw78 => k0_hw78

def k0_chk79 (v178 : IVec S16 32) : Prop :=
  (∀ a x, ((![v178] : Fin 1 → IVec S16 32) a x).toNat < S16.size a)
theorem k0_idx79_inb : ∀ (v178 : IVec S16 32) (k0_hw79 : k0_chk79 v178), ∀ a x, ((![v178] : Fin 1 → IVec S16 32) a x).toNat < S16.size a := fun v178 k0_hw79 => k0_hw79

def k0_chk80 (v182 : IVec S16 32) : Prop :=
  (∀ a x, ((![v182] : Fin 1 → IVec S16 32) a x).toNat < S16.size a)
theorem k0_idx80_inb : ∀ (v182 : IVec S16 32) (k0_hw80 : k0_chk80 v182), ∀ a x, ((![v182] : Fin 1 → IVec S16 32) a x).toNat < S16.size a := fun v182 k0_hw80 => k0_hw80

def k0_chk81 (v186 : IVec S16 32) : Prop :=
  (∀ a x, ((![v186] : Fin 1 → IVec S16 32) a x).toNat < S16.size a)
theorem k0_idx81_inb : ∀ (v186 : IVec S16 32) (k0_hw81 : k0_chk81 v186), ∀ a x, ((![v186] : Fin 1 → IVec S16 32) a x).toNat < S16.size a := fun v186 k0_hw81 => k0_hw81

def k0_chk82 (v190 : IVec S16 32) : Prop :=
  (∀ a x, ((![v190] : Fin 1 → IVec S16 32) a x).toNat < S16.size a)
theorem k0_idx82_inb : ∀ (v190 : IVec S16 32) (k0_hw82 : k0_chk82 v190), ∀ a x, ((![v190] : Fin 1 → IVec S16 32) a x).toNat < S16.size a := fun v190 k0_hw82 => k0_hw82

def k0_chk83 (v194 : IVec S16 32) : Prop :=
  (∀ a x, ((![v194] : Fin 1 → IVec S16 32) a x).toNat < S16.size a)
theorem k0_idx83_inb : ∀ (v194 : IVec S16 32) (k0_hw83 : k0_chk83 v194), ∀ a x, ((![v194] : Fin 1 → IVec S16 32) a x).toNat < S16.size a := fun v194 k0_hw83 => k0_hw83

def k0_chk84 (v207 : IVec S16 32) : Prop :=
  (∀ a x, ((![v207] : Fin 1 → IVec S16 32) a x).toNat < S16.size a)
theorem k0_idx84_inb : ∀ (v207 : IVec S16 32) (k0_hw84 : k0_chk84 v207), ∀ a x, ((![v207] : Fin 1 → IVec S16 32) a x).toNat < S16.size a := fun v207 k0_hw84 => k0_hw84

def k0_chk85 (v212 : IVec S16 32) : Prop :=
  (∀ a x, ((![v212] : Fin 1 → IVec S16 32) a x).toNat < S16.size a)
theorem k0_idx85_inb : ∀ (v212 : IVec S16 32) (k0_hw85 : k0_chk85 v212), ∀ a x, ((![v212] : Fin 1 → IVec S16 32) a x).toNat < S16.size a := fun v212 k0_hw85 => k0_hw85

def k0_chk86 (v217 : IVec S16 32) : Prop :=
  (∀ a x, ((![v217] : Fin 1 → IVec S16 32) a x).toNat < S16.size a)
theorem k0_idx86_inb : ∀ (v217 : IVec S16 32) (k0_hw86 : k0_chk86 v217), ∀ a x, ((![v217] : Fin 1 → IVec S16 32) a x).toNat < S16.size a := fun v217 k0_hw86 => k0_hw86

def k0_chk87 (v222 : IVec S16 32) : Prop :=
  (∀ a x, ((![v222] : Fin 1 → IVec S16 32) a x).toNat < S16.size a)
theorem k0_idx87_inb : ∀ (v222 : IVec S16 32) (k0_hw87 : k0_chk87 v222), ∀ a x, ((![v222] : Fin 1 → IVec S16 32) a x).toNat < S16.size a := fun v222 k0_hw87 => k0_hw87

def k0_chk88 (v227 : IVec S16 32) : Prop :=
  (∀ a x, ((![v227] : Fin 1 → IVec S16 32) a x).toNat < S16.size a)
theorem k0_idx88_inb : ∀ (v227 : IVec S16 32) (k0_hw88 : k0_chk88 v227), ∀ a x, ((![v227] : Fin 1 → IVec S16 32) a x).toNat < S16.size a := fun v227 k0_hw88 => k0_hw88

def k0_chk89 (v232 : IVec S16 32) : Prop :=
  (∀ a x, ((![v232] : Fin 1 → IVec S16 32) a x).toNat < S16.size a)
theorem k0_idx89_inb : ∀ (v232 : IVec S16 32) (k0_hw89 : k0_chk89 v232), ∀ a x, ((![v232] : Fin 1 → IVec S16 32) a x).toNat < S16.size a := fun v232 k0_hw89 => k0_hw89

def k0_chk90 (v237 : IVec S16 32) : Prop :=
  (∀ a x, ((![v237] : Fin 1 → IVec S16 32) a x).toNat < S16.size a)
theorem k0_idx90_inb : ∀ (v237 : IVec S16 32) (k0_hw90 : k0_chk90 v237), ∀ a x, ((![v237] : Fin 1 → IVec S16 32) a x).toNat < S16.size a := fun v237 k0_hw90 => k0_hw90

def k0_chk91 (v242 : IVec S16 32) : Prop :=
  (∀ a x, ((![v242] : Fin 1 → IVec S16 32) a x).toNat < S16.size a)
theorem k0_idx91_inb : ∀ (v242 : IVec S16 32) (k0_hw91 : k0_chk91 v242), ∀ a x, ((![v242] : Fin 1 → IVec S16 32) a x).toNat < S16.size a := fun v242 k0_hw91 => k0_hw91

def k0_chk92 (v255 : IVec S16 32) : Prop :=
  (∀ a x, ((![v255] : Fin 1 → IVec S16 32) a x).toNat < S16.size a)
theorem k0_idx92_inb : ∀ (v255 : IVec S16 32) (k0_hw92 : k0_chk92 v255), ∀ a x, ((![v255] : Fin 1 → IVec S16 32) a x).toNat < S16.size a := fun v255 k0_hw92 => k0_hw92

def k0_chk93 (v260 : IVec S16 32) : Prop :=
  (∀ a x, ((![v260] : Fin 1 → IVec S16 32) a x).toNat < S16.size a)
theorem k0_idx93_inb : ∀ (v260 : IVec S16 32) (k0_hw93 : k0_chk93 v260), ∀ a x, ((![v260] : Fin 1 → IVec S16 32) a x).toNat < S16.size a := fun v260 k0_hw93 => k0_hw93

def k0_chk94 (v265 : IVec S16 32) : Prop :=
  (∀ a x, ((![v265] : Fin 1 → IVec S16 32) a x).toNat < S16.size a)
theorem k0_idx94_inb : ∀ (v265 : IVec S16 32) (k0_hw94 : k0_chk94 v265), ∀ a x, ((![v265] : Fin 1 → IVec S16 32) a x).toNat < S16.size a := fun v265 k0_hw94 => k0_hw94

def k0_chk95 (v270 : IVec S16 32) : Prop :=
  (∀ a x, ((![v270] : Fin 1 → IVec S16 32) a x).toNat < S16.size a)
theorem k0_idx95_inb : ∀ (v270 : IVec S16 32) (k0_hw95 : k0_chk95 v270), ∀ a x, ((![v270] : Fin 1 → IVec S16 32) a x).toNat < S16.size a := fun v270 k0_hw95 => k0_hw95

def k0_chk96 (v275 : IVec S16 32) : Prop :=
  (∀ a x, ((![v275] : Fin 1 → IVec S16 32) a x).toNat < S16.size a)
theorem k0_idx96_inb : ∀ (v275 : IVec S16 32) (k0_hw96 : k0_chk96 v275), ∀ a x, ((![v275] : Fin 1 → IVec S16 32) a x).toNat < S16.size a := fun v275 k0_hw96 => k0_hw96

def k0_chk97 (v280 : IVec S16 32) : Prop :=
  (∀ a x, ((![v280] : Fin 1 → IVec S16 32) a x).toNat < S16.size a)
theorem k0_idx97_inb : ∀ (v280 : IVec S16 32) (k0_hw97 : k0_chk97 v280), ∀ a x, ((![v280] : Fin 1 → IVec S16 32) a x).toNat < S16.size a := fun v280 k0_hw97 => k0_hw97

def k0_chk98 (v285 : IVec S16 32) : Prop :=
  (∀ a x, ((![v285] : Fin 1 → IVec S16 32) a x).toNat < S16.size a)
theorem k0_idx98_inb : ∀ (v285 : IVec S16 32) (k0_hw98 : k0_chk98 v285), ∀ a x, ((![v285] : Fin 1 → IVec S16 32) a x).toNat < S16.size a := fun v285 k0_hw98 => k0_hw98

def k0_chk99 (v290 : IVec S16 32) : Prop :=
  (∀ a x, ((![v290] : Fin 1 → IVec S16 32) a x).toNat < S16.size a)
theorem k0_idx99_inb : ∀ (v290 : IVec S16 32) (k0_hw99 : k0_chk99 v290), ∀ a x, ((![v290] : Fin 1 → IVec S16 32) a x).toNat < S16.size a := fun v290 k0_hw99 => k0_hw99
def k0_off12 (k0_t5 : Fin k0_t5_loop.trips) (c0_i32_54 : BitVec 32) : Fin 1 → Nat :=
  let c0_i32_53 : BitVec 32 := 0#32
  let c0_i32_45 : BitVec 32 := 0#32
  let c1_i32_47 : BitVec 32 := 1#32
  let arg17 : BitVec 32 := Scf.iv c0_i32_45 c1_i32_47 k0_t5
  let c1_i32_52 : BitVec 32 := 1#32
  let v113 : BitVec 32 := Scalar.muli arg17 c1_i32_52
  let v114 : BitVec 32 := Scalar.addi c0_i32_53 v113
  let c8_i32 : BitVec 32 := 8#32
  let v115 : BitVec 32 := Scalar.muli v114 c8_i32
  let v116 : BitVec 32 := Scalar.addi v115 c0_i32_54
  let c16_i32 : BitVec 32 := 16#32
  let v117 : BitVec 32 := Scalar.muli v116 c16_i32
  let v339 : Index := Scalar.indexCast v117
  ![v339.toNat]
@[reducible] def k0_t6_loop : Scf.Loop 32 :=
  let c0_i32_16 : BitVec 32 := 0#32
  let c128_i32_17 : BitVec 32 := 128#32
  let v51 : BitVec 32 := Scalar.addi c0_i32_16 c128_i32_17
  let c1_i32_18 : BitVec 32 := 1#32
  ⟨c0_i32_16, v51, c1_i32_18⟩
def k0_off13 (k0_t6 : Fin k0_t6_loop.trips) (c0_i32_30 : BitVec 32) : Fin 1 → Nat :=
  let c0_i32_29 : BitVec 32 := 0#32
  let c0_i32_16 : BitVec 32 := 0#32
  let c1_i32_18 : BitVec 32 := 1#32
  let arg16 : BitVec 32 := Scf.iv c0_i32_16 c1_i32_18 k0_t6
  let c1_i32_28 : BitVec 32 := 1#32
  let v71 : BitVec 32 := Scalar.muli arg16 c1_i32_28
  let v72 : BitVec 32 := Scalar.addi c0_i32_29 v71
  let c8_i32 : BitVec 32 := 8#32
  let v73 : BitVec 32 := Scalar.muli v72 c8_i32
  let v74 : BitVec 32 := Scalar.addi v73 c0_i32_30
  let c16_i32 : BitVec 32 := 16#32
  let v75 : BitVec 32 := Scalar.muli v74 c16_i32
  let v97 : Index := Scalar.indexCast v75
  ![v97.toNat]

def k0_chk100 (v124 : IVec S16 32) : Prop :=
  (∀ a x, ((![v124] : Fin 1 → IVec S16 32) a x).toNat < S16.size a)
theorem k0_idx100_inb : ∀ (v124 : IVec S16 32) (k0_hw100 : k0_chk100 v124), ∀ a x, ((![v124] : Fin 1 → IVec S16 32) a x).toNat < S16.size a := fun v124 k0_hw100 => k0_hw100

def k0_chk101 (v128 : IVec S16 32) : Prop :=
  (∀ a x, ((![v128] : Fin 1 → IVec S16 32) a x).toNat < S16.size a)
theorem k0_idx101_inb : ∀ (v128 : IVec S16 32) (k0_hw101 : k0_chk101 v128), ∀ a x, ((![v128] : Fin 1 → IVec S16 32) a x).toNat < S16.size a := fun v128 k0_hw101 => k0_hw101

def k0_chk102 (v132 : IVec S16 32) : Prop :=
  (∀ a x, ((![v132] : Fin 1 → IVec S16 32) a x).toNat < S16.size a)
theorem k0_idx102_inb : ∀ (v132 : IVec S16 32) (k0_hw102 : k0_chk102 v132), ∀ a x, ((![v132] : Fin 1 → IVec S16 32) a x).toNat < S16.size a := fun v132 k0_hw102 => k0_hw102

def k0_chk103 (v136 : IVec S16 32) : Prop :=
  (∀ a x, ((![v136] : Fin 1 → IVec S16 32) a x).toNat < S16.size a)
theorem k0_idx103_inb : ∀ (v136 : IVec S16 32) (k0_hw103 : k0_chk103 v136), ∀ a x, ((![v136] : Fin 1 → IVec S16 32) a x).toNat < S16.size a := fun v136 k0_hw103 => k0_hw103

def k0_chk104 (v140 : IVec S16 32) : Prop :=
  (∀ a x, ((![v140] : Fin 1 → IVec S16 32) a x).toNat < S16.size a)
theorem k0_idx104_inb : ∀ (v140 : IVec S16 32) (k0_hw104 : k0_chk104 v140), ∀ a x, ((![v140] : Fin 1 → IVec S16 32) a x).toNat < S16.size a := fun v140 k0_hw104 => k0_hw104

def k0_chk105 (v144 : IVec S16 32) : Prop :=
  (∀ a x, ((![v144] : Fin 1 → IVec S16 32) a x).toNat < S16.size a)
theorem k0_idx105_inb : ∀ (v144 : IVec S16 32) (k0_hw105 : k0_chk105 v144), ∀ a x, ((![v144] : Fin 1 → IVec S16 32) a x).toNat < S16.size a := fun v144 k0_hw105 => k0_hw105

def k0_chk106 (v148 : IVec S16 32) : Prop :=
  (∀ a x, ((![v148] : Fin 1 → IVec S16 32) a x).toNat < S16.size a)
theorem k0_idx106_inb : ∀ (v148 : IVec S16 32) (k0_hw106 : k0_chk106 v148), ∀ a x, ((![v148] : Fin 1 → IVec S16 32) a x).toNat < S16.size a := fun v148 k0_hw106 => k0_hw106

def k0_chk107 (v152 : IVec S16 32) : Prop :=
  (∀ a x, ((![v152] : Fin 1 → IVec S16 32) a x).toNat < S16.size a)
theorem k0_idx107_inb : ∀ (v152 : IVec S16 32) (k0_hw107 : k0_chk107 v152), ∀ a x, ((![v152] : Fin 1 → IVec S16 32) a x).toNat < S16.size a := fun v152 k0_hw107 => k0_hw107

def k0_chk108 (v165 : IVec S16 32) : Prop :=
  (∀ a x, ((![v165] : Fin 1 → IVec S16 32) a x).toNat < S16.size a)
theorem k0_idx108_inb : ∀ (v165 : IVec S16 32) (k0_hw108 : k0_chk108 v165), ∀ a x, ((![v165] : Fin 1 → IVec S16 32) a x).toNat < S16.size a := fun v165 k0_hw108 => k0_hw108

def k0_chk109 (v170 : IVec S16 32) : Prop :=
  (∀ a x, ((![v170] : Fin 1 → IVec S16 32) a x).toNat < S16.size a)
theorem k0_idx109_inb : ∀ (v170 : IVec S16 32) (k0_hw109 : k0_chk109 v170), ∀ a x, ((![v170] : Fin 1 → IVec S16 32) a x).toNat < S16.size a := fun v170 k0_hw109 => k0_hw109

def k0_chk110 (v175 : IVec S16 32) : Prop :=
  (∀ a x, ((![v175] : Fin 1 → IVec S16 32) a x).toNat < S16.size a)
theorem k0_idx110_inb : ∀ (v175 : IVec S16 32) (k0_hw110 : k0_chk110 v175), ∀ a x, ((![v175] : Fin 1 → IVec S16 32) a x).toNat < S16.size a := fun v175 k0_hw110 => k0_hw110

def k0_chk111 (v180 : IVec S16 32) : Prop :=
  (∀ a x, ((![v180] : Fin 1 → IVec S16 32) a x).toNat < S16.size a)
theorem k0_idx111_inb : ∀ (v180 : IVec S16 32) (k0_hw111 : k0_chk111 v180), ∀ a x, ((![v180] : Fin 1 → IVec S16 32) a x).toNat < S16.size a := fun v180 k0_hw111 => k0_hw111

def k0_chk112 (v185 : IVec S16 32) : Prop :=
  (∀ a x, ((![v185] : Fin 1 → IVec S16 32) a x).toNat < S16.size a)
theorem k0_idx112_inb : ∀ (v185 : IVec S16 32) (k0_hw112 : k0_chk112 v185), ∀ a x, ((![v185] : Fin 1 → IVec S16 32) a x).toNat < S16.size a := fun v185 k0_hw112 => k0_hw112

def k0_chk113 (v190 : IVec S16 32) : Prop :=
  (∀ a x, ((![v190] : Fin 1 → IVec S16 32) a x).toNat < S16.size a)
theorem k0_idx113_inb : ∀ (v190 : IVec S16 32) (k0_hw113 : k0_chk113 v190), ∀ a x, ((![v190] : Fin 1 → IVec S16 32) a x).toNat < S16.size a := fun v190 k0_hw113 => k0_hw113

def k0_chk114 (v195 : IVec S16 32) : Prop :=
  (∀ a x, ((![v195] : Fin 1 → IVec S16 32) a x).toNat < S16.size a)
theorem k0_idx114_inb : ∀ (v195 : IVec S16 32) (k0_hw114 : k0_chk114 v195), ∀ a x, ((![v195] : Fin 1 → IVec S16 32) a x).toNat < S16.size a := fun v195 k0_hw114 => k0_hw114

def k0_chk115 (v200 : IVec S16 32) : Prop :=
  (∀ a x, ((![v200] : Fin 1 → IVec S16 32) a x).toNat < S16.size a)
theorem k0_idx115_inb : ∀ (v200 : IVec S16 32) (k0_hw115 : k0_chk115 v200), ∀ a x, ((![v200] : Fin 1 → IVec S16 32) a x).toNat < S16.size a := fun v200 k0_hw115 => k0_hw115

def k0_chk116 (v213 : IVec S16 32) : Prop :=
  (∀ a x, ((![v213] : Fin 1 → IVec S16 32) a x).toNat < S16.size a)
theorem k0_idx116_inb : ∀ (v213 : IVec S16 32) (k0_hw116 : k0_chk116 v213), ∀ a x, ((![v213] : Fin 1 → IVec S16 32) a x).toNat < S16.size a := fun v213 k0_hw116 => k0_hw116

def k0_chk117 (v218 : IVec S16 32) : Prop :=
  (∀ a x, ((![v218] : Fin 1 → IVec S16 32) a x).toNat < S16.size a)
theorem k0_idx117_inb : ∀ (v218 : IVec S16 32) (k0_hw117 : k0_chk117 v218), ∀ a x, ((![v218] : Fin 1 → IVec S16 32) a x).toNat < S16.size a := fun v218 k0_hw117 => k0_hw117

def k0_chk118 (v223 : IVec S16 32) : Prop :=
  (∀ a x, ((![v223] : Fin 1 → IVec S16 32) a x).toNat < S16.size a)
theorem k0_idx118_inb : ∀ (v223 : IVec S16 32) (k0_hw118 : k0_chk118 v223), ∀ a x, ((![v223] : Fin 1 → IVec S16 32) a x).toNat < S16.size a := fun v223 k0_hw118 => k0_hw118

def k0_chk119 (v228 : IVec S16 32) : Prop :=
  (∀ a x, ((![v228] : Fin 1 → IVec S16 32) a x).toNat < S16.size a)
theorem k0_idx119_inb : ∀ (v228 : IVec S16 32) (k0_hw119 : k0_chk119 v228), ∀ a x, ((![v228] : Fin 1 → IVec S16 32) a x).toNat < S16.size a := fun v228 k0_hw119 => k0_hw119

def k0_chk120 (v233 : IVec S16 32) : Prop :=
  (∀ a x, ((![v233] : Fin 1 → IVec S16 32) a x).toNat < S16.size a)
theorem k0_idx120_inb : ∀ (v233 : IVec S16 32) (k0_hw120 : k0_chk120 v233), ∀ a x, ((![v233] : Fin 1 → IVec S16 32) a x).toNat < S16.size a := fun v233 k0_hw120 => k0_hw120

def k0_chk121 (v238 : IVec S16 32) : Prop :=
  (∀ a x, ((![v238] : Fin 1 → IVec S16 32) a x).toNat < S16.size a)
theorem k0_idx121_inb : ∀ (v238 : IVec S16 32) (k0_hw121 : k0_chk121 v238), ∀ a x, ((![v238] : Fin 1 → IVec S16 32) a x).toNat < S16.size a := fun v238 k0_hw121 => k0_hw121

def k0_chk122 (v243 : IVec S16 32) : Prop :=
  (∀ a x, ((![v243] : Fin 1 → IVec S16 32) a x).toNat < S16.size a)
theorem k0_idx122_inb : ∀ (v243 : IVec S16 32) (k0_hw122 : k0_chk122 v243), ∀ a x, ((![v243] : Fin 1 → IVec S16 32) a x).toNat < S16.size a := fun v243 k0_hw122 => k0_hw122

def k0_chk123 (v248 : IVec S16 32) : Prop :=
  (∀ a x, ((![v248] : Fin 1 → IVec S16 32) a x).toNat < S16.size a)
theorem k0_idx123_inb : ∀ (v248 : IVec S16 32) (k0_hw123 : k0_chk123 v248), ∀ a x, ((![v248] : Fin 1 → IVec S16 32) a x).toNat < S16.size a := fun v248 k0_hw123 => k0_hw123
def k0_off14 (k0_t6 : Fin k0_t6_loop.trips) (c0_i32_30 : BitVec 32) : Fin 1 → Nat :=
  let c0_i32_29 : BitVec 32 := 0#32
  let c0_i32_16 : BitVec 32 := 0#32
  let c1_i32_18 : BitVec 32 := 1#32
  let arg16 : BitVec 32 := Scf.iv c0_i32_16 c1_i32_18 k0_t6
  let c1_i32_28 : BitVec 32 := 1#32
  let v71 : BitVec 32 := Scalar.muli arg16 c1_i32_28
  let v72 : BitVec 32 := Scalar.addi c0_i32_29 v71
  let c8_i32 : BitVec 32 := 8#32
  let v73 : BitVec 32 := Scalar.muli v72 c8_i32
  let v74 : BitVec 32 := Scalar.addi v73 c0_i32_30
  let c16_i32 : BitVec 32 := 16#32
  let v75 : BitVec 32 := Scalar.muli v74 c16_i32
  let v297 : Index := Scalar.indexCast v75
  ![v297.toNat]
@[reducible] def k0_t7_loop : Scf.Loop 32 :=
  let c0_i32_21 : BitVec 32 := 0#32
  let c128_i32_22 : BitVec 32 := 128#32
  let v61 : BitVec 32 := Scalar.addi c0_i32_21 c128_i32_22
  let c1_i32_23 : BitVec 32 := 1#32
  ⟨c0_i32_21, v61, c1_i32_23⟩
def k0_off15 (k0_t7 : Fin k0_t7_loop.trips) (c0_i32_30 : BitVec 32) : Fin 1 → Nat :=
  let c0_i32_29 : BitVec 32 := 0#32
  let c0_i32_21 : BitVec 32 := 0#32
  let c1_i32_23 : BitVec 32 := 1#32
  let arg16 : BitVec 32 := Scf.iv c0_i32_21 c1_i32_23 k0_t7
  let c1_i32_28 : BitVec 32 := 1#32
  let v71 : BitVec 32 := Scalar.muli arg16 c1_i32_28
  let v72 : BitVec 32 := Scalar.addi c0_i32_29 v71
  let c8_i32 : BitVec 32 := 8#32
  let v73 : BitVec 32 := Scalar.muli v72 c8_i32
  let v74 : BitVec 32 := Scalar.addi v73 c0_i32_30
  let c16_i32 : BitVec 32 := 16#32
  let v75 : BitVec 32 := Scalar.muli v74 c16_i32
  let v97 : Index := Scalar.indexCast v75
  ![v97.toNat]

def k0_chk124 (v124 : IVec S16 32) : Prop :=
  (∀ a x, ((![v124] : Fin 1 → IVec S16 32) a x).toNat < S16.size a)
theorem k0_idx124_inb : ∀ (v124 : IVec S16 32) (k0_hw124 : k0_chk124 v124), ∀ a x, ((![v124] : Fin 1 → IVec S16 32) a x).toNat < S16.size a := fun v124 k0_hw124 => k0_hw124

def k0_chk125 (v128 : IVec S16 32) : Prop :=
  (∀ a x, ((![v128] : Fin 1 → IVec S16 32) a x).toNat < S16.size a)
theorem k0_idx125_inb : ∀ (v128 : IVec S16 32) (k0_hw125 : k0_chk125 v128), ∀ a x, ((![v128] : Fin 1 → IVec S16 32) a x).toNat < S16.size a := fun v128 k0_hw125 => k0_hw125

def k0_chk126 (v132 : IVec S16 32) : Prop :=
  (∀ a x, ((![v132] : Fin 1 → IVec S16 32) a x).toNat < S16.size a)
theorem k0_idx126_inb : ∀ (v132 : IVec S16 32) (k0_hw126 : k0_chk126 v132), ∀ a x, ((![v132] : Fin 1 → IVec S16 32) a x).toNat < S16.size a := fun v132 k0_hw126 => k0_hw126

def k0_chk127 (v136 : IVec S16 32) : Prop :=
  (∀ a x, ((![v136] : Fin 1 → IVec S16 32) a x).toNat < S16.size a)
theorem k0_idx127_inb : ∀ (v136 : IVec S16 32) (k0_hw127 : k0_chk127 v136), ∀ a x, ((![v136] : Fin 1 → IVec S16 32) a x).toNat < S16.size a := fun v136 k0_hw127 => k0_hw127

def k0_chk128 (v140 : IVec S16 32) : Prop :=
  (∀ a x, ((![v140] : Fin 1 → IVec S16 32) a x).toNat < S16.size a)
theorem k0_idx128_inb : ∀ (v140 : IVec S16 32) (k0_hw128 : k0_chk128 v140), ∀ a x, ((![v140] : Fin 1 → IVec S16 32) a x).toNat < S16.size a := fun v140 k0_hw128 => k0_hw128

def k0_chk129 (v144 : IVec S16 32) : Prop :=
  (∀ a x, ((![v144] : Fin 1 → IVec S16 32) a x).toNat < S16.size a)
theorem k0_idx129_inb : ∀ (v144 : IVec S16 32) (k0_hw129 : k0_chk129 v144), ∀ a x, ((![v144] : Fin 1 → IVec S16 32) a x).toNat < S16.size a := fun v144 k0_hw129 => k0_hw129

def k0_chk130 (v148 : IVec S16 32) : Prop :=
  (∀ a x, ((![v148] : Fin 1 → IVec S16 32) a x).toNat < S16.size a)
theorem k0_idx130_inb : ∀ (v148 : IVec S16 32) (k0_hw130 : k0_chk130 v148), ∀ a x, ((![v148] : Fin 1 → IVec S16 32) a x).toNat < S16.size a := fun v148 k0_hw130 => k0_hw130

def k0_chk131 (v152 : IVec S16 32) : Prop :=
  (∀ a x, ((![v152] : Fin 1 → IVec S16 32) a x).toNat < S16.size a)
theorem k0_idx131_inb : ∀ (v152 : IVec S16 32) (k0_hw131 : k0_chk131 v152), ∀ a x, ((![v152] : Fin 1 → IVec S16 32) a x).toNat < S16.size a := fun v152 k0_hw131 => k0_hw131

def k0_chk132 (v165 : IVec S16 32) : Prop :=
  (∀ a x, ((![v165] : Fin 1 → IVec S16 32) a x).toNat < S16.size a)
theorem k0_idx132_inb : ∀ (v165 : IVec S16 32) (k0_hw132 : k0_chk132 v165), ∀ a x, ((![v165] : Fin 1 → IVec S16 32) a x).toNat < S16.size a := fun v165 k0_hw132 => k0_hw132

def k0_chk133 (v170 : IVec S16 32) : Prop :=
  (∀ a x, ((![v170] : Fin 1 → IVec S16 32) a x).toNat < S16.size a)
theorem k0_idx133_inb : ∀ (v170 : IVec S16 32) (k0_hw133 : k0_chk133 v170), ∀ a x, ((![v170] : Fin 1 → IVec S16 32) a x).toNat < S16.size a := fun v170 k0_hw133 => k0_hw133

def k0_chk134 (v175 : IVec S16 32) : Prop :=
  (∀ a x, ((![v175] : Fin 1 → IVec S16 32) a x).toNat < S16.size a)
theorem k0_idx134_inb : ∀ (v175 : IVec S16 32) (k0_hw134 : k0_chk134 v175), ∀ a x, ((![v175] : Fin 1 → IVec S16 32) a x).toNat < S16.size a := fun v175 k0_hw134 => k0_hw134

def k0_chk135 (v180 : IVec S16 32) : Prop :=
  (∀ a x, ((![v180] : Fin 1 → IVec S16 32) a x).toNat < S16.size a)
theorem k0_idx135_inb : ∀ (v180 : IVec S16 32) (k0_hw135 : k0_chk135 v180), ∀ a x, ((![v180] : Fin 1 → IVec S16 32) a x).toNat < S16.size a := fun v180 k0_hw135 => k0_hw135

def k0_chk136 (v185 : IVec S16 32) : Prop :=
  (∀ a x, ((![v185] : Fin 1 → IVec S16 32) a x).toNat < S16.size a)
theorem k0_idx136_inb : ∀ (v185 : IVec S16 32) (k0_hw136 : k0_chk136 v185), ∀ a x, ((![v185] : Fin 1 → IVec S16 32) a x).toNat < S16.size a := fun v185 k0_hw136 => k0_hw136

def k0_chk137 (v190 : IVec S16 32) : Prop :=
  (∀ a x, ((![v190] : Fin 1 → IVec S16 32) a x).toNat < S16.size a)
theorem k0_idx137_inb : ∀ (v190 : IVec S16 32) (k0_hw137 : k0_chk137 v190), ∀ a x, ((![v190] : Fin 1 → IVec S16 32) a x).toNat < S16.size a := fun v190 k0_hw137 => k0_hw137

def k0_chk138 (v195 : IVec S16 32) : Prop :=
  (∀ a x, ((![v195] : Fin 1 → IVec S16 32) a x).toNat < S16.size a)
theorem k0_idx138_inb : ∀ (v195 : IVec S16 32) (k0_hw138 : k0_chk138 v195), ∀ a x, ((![v195] : Fin 1 → IVec S16 32) a x).toNat < S16.size a := fun v195 k0_hw138 => k0_hw138

def k0_chk139 (v200 : IVec S16 32) : Prop :=
  (∀ a x, ((![v200] : Fin 1 → IVec S16 32) a x).toNat < S16.size a)
theorem k0_idx139_inb : ∀ (v200 : IVec S16 32) (k0_hw139 : k0_chk139 v200), ∀ a x, ((![v200] : Fin 1 → IVec S16 32) a x).toNat < S16.size a := fun v200 k0_hw139 => k0_hw139

def k0_chk140 (v213 : IVec S16 32) : Prop :=
  (∀ a x, ((![v213] : Fin 1 → IVec S16 32) a x).toNat < S16.size a)
theorem k0_idx140_inb : ∀ (v213 : IVec S16 32) (k0_hw140 : k0_chk140 v213), ∀ a x, ((![v213] : Fin 1 → IVec S16 32) a x).toNat < S16.size a := fun v213 k0_hw140 => k0_hw140

def k0_chk141 (v218 : IVec S16 32) : Prop :=
  (∀ a x, ((![v218] : Fin 1 → IVec S16 32) a x).toNat < S16.size a)
theorem k0_idx141_inb : ∀ (v218 : IVec S16 32) (k0_hw141 : k0_chk141 v218), ∀ a x, ((![v218] : Fin 1 → IVec S16 32) a x).toNat < S16.size a := fun v218 k0_hw141 => k0_hw141

def k0_chk142 (v223 : IVec S16 32) : Prop :=
  (∀ a x, ((![v223] : Fin 1 → IVec S16 32) a x).toNat < S16.size a)
theorem k0_idx142_inb : ∀ (v223 : IVec S16 32) (k0_hw142 : k0_chk142 v223), ∀ a x, ((![v223] : Fin 1 → IVec S16 32) a x).toNat < S16.size a := fun v223 k0_hw142 => k0_hw142

def k0_chk143 (v228 : IVec S16 32) : Prop :=
  (∀ a x, ((![v228] : Fin 1 → IVec S16 32) a x).toNat < S16.size a)
theorem k0_idx143_inb : ∀ (v228 : IVec S16 32) (k0_hw143 : k0_chk143 v228), ∀ a x, ((![v228] : Fin 1 → IVec S16 32) a x).toNat < S16.size a := fun v228 k0_hw143 => k0_hw143

def k0_chk144 (v233 : IVec S16 32) : Prop :=
  (∀ a x, ((![v233] : Fin 1 → IVec S16 32) a x).toNat < S16.size a)
theorem k0_idx144_inb : ∀ (v233 : IVec S16 32) (k0_hw144 : k0_chk144 v233), ∀ a x, ((![v233] : Fin 1 → IVec S16 32) a x).toNat < S16.size a := fun v233 k0_hw144 => k0_hw144

def k0_chk145 (v238 : IVec S16 32) : Prop :=
  (∀ a x, ((![v238] : Fin 1 → IVec S16 32) a x).toNat < S16.size a)
theorem k0_idx145_inb : ∀ (v238 : IVec S16 32) (k0_hw145 : k0_chk145 v238), ∀ a x, ((![v238] : Fin 1 → IVec S16 32) a x).toNat < S16.size a := fun v238 k0_hw145 => k0_hw145

def k0_chk146 (v243 : IVec S16 32) : Prop :=
  (∀ a x, ((![v243] : Fin 1 → IVec S16 32) a x).toNat < S16.size a)
theorem k0_idx146_inb : ∀ (v243 : IVec S16 32) (k0_hw146 : k0_chk146 v243), ∀ a x, ((![v243] : Fin 1 → IVec S16 32) a x).toNat < S16.size a := fun v243 k0_hw146 => k0_hw146

def k0_chk147 (v248 : IVec S16 32) : Prop :=
  (∀ a x, ((![v248] : Fin 1 → IVec S16 32) a x).toNat < S16.size a)
theorem k0_idx147_inb : ∀ (v248 : IVec S16 32) (k0_hw147 : k0_chk147 v248), ∀ a x, ((![v248] : Fin 1 → IVec S16 32) a x).toNat < S16.size a := fun v248 k0_hw147 => k0_hw147
def k0_off16 (k0_t7 : Fin k0_t7_loop.trips) (c0_i32_30 : BitVec 32) : Fin 1 → Nat :=
  let c0_i32_29 : BitVec 32 := 0#32
  let c0_i32_21 : BitVec 32 := 0#32
  let c1_i32_23 : BitVec 32 := 1#32
  let arg16 : BitVec 32 := Scf.iv c0_i32_21 c1_i32_23 k0_t7
  let c1_i32_28 : BitVec 32 := 1#32
  let v71 : BitVec 32 := Scalar.muli arg16 c1_i32_28
  let v72 : BitVec 32 := Scalar.addi c0_i32_29 v71
  let c8_i32 : BitVec 32 := 8#32
  let v73 : BitVec 32 := Scalar.muli v72 c8_i32
  let v74 : BitVec 32 := Scalar.addi v73 c0_i32_30
  let c16_i32 : BitVec 32 := 16#32
  let v75 : BitVec 32 := Scalar.muli v74 c16_i32
  let v297 : Index := Scalar.indexCast v75
  ![v297.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16777216 : Shape := ⟨1, ![16777216]⟩
abbrev S9 : Shape := ⟨1, ![9]⟩
abbrev S1x9 : Shape := ⟨2, ![1, 9]⟩
abbrev S16777216x1 : Shape := ⟨2, ![16777216, 1]⟩
abbrev S16777216x9 : Shape := ⟨2, ![16777216, 9]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S16777216, .f32⟩
  | .hbm, ⟨1, _⟩ => ⟨S9, .f32⟩
  | .hbm, ⟨2, _⟩ => ⟨S1x9, .f32⟩
  | .hbm, ⟨3, _⟩ => ⟨S16777216x1, .f32⟩
  | .hbm, ⟨4, _⟩ => ⟨S16777216x9, .f32⟩
  | .hbm, ⟨5, _⟩ => ⟨S16777216x9, .f32⟩
  | .hbm, ⟨6, _⟩ => ⟨S16777216x9, .i1⟩
  | .hbm, ⟨7, _⟩ => ⟨S16777216x9, .i32⟩
  | .hbm, ⟨8, _⟩ => ⟨S_, .i32⟩
  | .hbm, ⟨9, _⟩ => ⟨S16777216, .i32⟩
  | _, _ => ⟨S16777216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Base.lean ====
/-
  The names every module of this proof shares: the kernel program as the launch theorem sees it, the resource algebra
  (the launch's handshakes beside the transfers' counters), and the function the kernel computes, element by element,
  over any float values.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.WritesUnit
public import proofs.«01_k».proof.Proof.Gen.KernelIdeal
public import proofs.«01_k».proof.Proof.Gen.KernelIdeal.Skeleton

@[expose] public section

noncomputable section

namespace Cert.Digi

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI Idealize.SL.Sem
open Idealize.ShloMosaic.Rounds

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The side conditions of the launch: its semaphores are distinct and none of them is a task's own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The handshakes' ghost state, and beside it the counters of the tasks' transfers. -/
abbrev UH : Type := URounds (GSem nD τ sig) ℕ
abbrev UU : Type := UH × Counters

abbrev EH : Emb UH (MT nD τ sig (HIx 1) (Elt F) ℕ UU ℕ) := embL

/-- The SparseCore and the tile of a grid point. -/
abbrev cV (L : grid0.Coords) : Fin τ.nSC := (L 0).castLE hcore0
abbrev jV (L : grid0.Coords) : Fin τ.nSub := (L 1).castLE hsub0

/-! ## What the kernel computes for one element

Four comparisons walk down a binary search over sixteen edges: each sets one bit of the bin number. `p` is edge 7; the
tables `t2`, `t1` hold, under the bits already known, the edge that decides bit 4 and bit 2; `b` is the edges. -/

section Code

variable [FloatOps F]

/-- The place of a table a 32-bit code points at. -/
def lane (c : BitVec 32) : S16.Idx := fun a => ⟨c.toNat % 16, by
  obtain rfl : a = 0 := Subsingleton.elim _ _
  exact Nat.mod_lt c.toNat (show 0 < 16 by decide)⟩

/-- `n` when `x` is at or above the edge `e`, else zero. -/
def bit (n : BitVec 32) (x e : Elt F .f32) : BitVec 32 :=
  Scalar.select (FloatOps.cmpf (F := F) (φ := .f32) .oge x e) n 0#32

/-- One step down: the edge looked up under the code so far decides bit `n`. -/
def down (tab : Vec F S16 .f32) (n : BitVec 32) (x : Elt F .f32) (c : BitVec 32) : BitVec 32 :=
  c ||| bit n x (tab (lane c))

/-- The four steps: the bin number of `x`. -/
def walk (p : Elt F .f32) (t2 t1 b : Vec F S16 .f32) (x : Elt F .f32) : BitVec 32 :=
  down b 1#32 x (down t1 2#32 x (down t2 4#32 x (bit 8#32 x p)))

/-- A code built from the four bits is below sixteen: the first bit, -/
theorem bit_lt {n : BitVec 32} (hn : n.toNat < 16) (x e : Elt F .f32) : (bit n x e).toNat < 16 := by
  unfold bit Scalar.select; split
  · exact hn
  · exact (by decide : (0#32 : BitVec 32).toNat < 16)

/-- and each bit joined to a code below sixteen. -/
theorem or_lt {c d : BitVec 32} (hc : c.toNat < 16) (hd : d.toNat < 16) : (c ||| d).toNat < 16 := by
  rw [BitVec.toNat_or]; exact Nat.or_lt_two_pow (n := 4) hc hd

theorem down_lt (tab : Vec F S16 .f32) {n : BitVec 32} (hn : n.toNat < 16) (x : Elt F .f32) {c : BitVec 32} (hc : c.toNat < 16) :
    (down tab n x c).toNat < 16 := or_lt hc (bit_lt hn x _)

/-- A lookup at a vector of codes reads, lane by lane, the place the lane's code points at. -/
theorem loadIdx_lane (tab : Vec F S16 .f32) (v : IVec S16 32)
    (h : ∀ a x, ((![v] : Fin 1 → IVec S16 32) a x).toNat < S16.size a) (l : S16.Idx) :
    loadIdx tab ![v] h l = tab (lane (v l)) := by
  unfold loadIdx; congr 1; funext a; apply Fin.ext
  obtain rfl : a = 0 := Subsingleton.elim _ _
  exact (Nat.mod_eq_of_lt (h 0 l)).symm

end Code

end Cert.Digi

end
-- ==== Proof.Trip.lean ====
/-
  One trip of the vector loop, and the loop: from the tables and a chunk of the input in tile memory, 128 trips of eight
  sixteen-lane vectors leave in the output chunk the bin number of every element. The six loops of the kernel are one
  text at other buffers, so the lemma is stated once, for any input and output chunk.
-/
module

public import proofs.«01_k».proof.Proof.Base

@[expose] public section

noncomputable section

namespace Cert.Digi

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The checks and the payloads, over any code so far -/

/-- The first code passes its check. -/
theorem chk_first (x p : FVec F S16 .f32) :
    ∀ a l, ((![select (cmpf .oge x p) (broadcast S16 8#32) (broadcast S16 0#32)] : Fin 1 → IVec S16 32) a l).toNat < S16.size a := by
  intro a l
  obtain rfl : a = 0 := Subsingleton.elim _ _
  exact bit_lt (F := F) (n := 8#32) (by decide) (x l) (p l)

/-- A code with a bit joined passes if the code did. -/
theorem chk_next {c : IVec S16 32} {n : BitVec 32} (hn : n.toNat < 16)
    (hc : ∀ a l, ((![c] : Fin 1 → IVec S16 32) a l).toNat < S16.size a) (x e : FVec F S16 .f32) :
    ∀ a l, ((![ori c (select (cmpf .oge x e) (broadcast S16 n) (broadcast S16 0#32))] : Fin 1 → IVec S16 32) a l).toNat < S16.size a := by
  intro a l
  obtain rfl : a = 0 := Subsingleton.elim _ _
  exact or_lt (hc 0 l) (bit_lt (F := F) hn (x l) (e l))

/-- A cast of sixteen lanes to sixteen lanes is the identity. -/
theorem cast_self {α : Type} (v : S16.Idx → α) (l : S16.Idx) : shapeCast S16 v shapeCasts_S16_S16 l = v l :=
  congrArg v (Shape.reshapeEquiv_self _ l)

/-- The vector the kernel stores for eight comparisons' worth of sixteen lanes is `walk` in each lane. -/
theorem stored_eq (p : Elt F .f32) (t2 t1 b : Vec F S16 .f32) (y : FVec F S16 .f32) (x : FVec F S16 .f32) (c8 c4 c2 : IVec S16 32)
    (h8 : ∀ a l, ((![c8] : Fin 1 → IVec S16 32) a l).toNat < S16.size a)
    (h4 : ∀ a l, ((![c4] : Fin 1 → IVec S16 32) a l).toNat < S16.size a)
    (h2 : ∀ a l, ((![c2] : Fin 1 → IVec S16 32) a l).toNat < S16.size a)
    (ex : x = shapeCast S16 y shapeCasts_S16_S16)
    (e8 : c8 = select (cmpf .oge x (broadcast S16 p)) (broadcast S16 8#32) (broadcast S16 0#32))
    (e4 : c4 = ori c8 (select (cmpf .oge x (loadIdx t2 ![c8] h8)) (broadcast S16 4#32) (broadcast S16 0#32)))
    (e2 : c2 = ori c4 (select (cmpf .oge x (loadIdx t1 ![c4] h4)) (broadcast S16 2#32) (broadcast S16 0#32)))
    (l : S16.Idx) :
    shapeCast S16 (ori c2 (select (cmpf .oge x (loadIdx b ![c2] h2)) (broadcast S16 1#32) (broadcast S16 0#32))) shapeCasts_S16_S16 l
      = walk p t2 t1 b (y l) := by
  have hx : x l = y l := by rw [ex]; exact cast_self y l
  refine (cast_self _ l).trans ?_
  rw [← hx]
  have f8 : c8 l = bit 8#32 (x l) p := by rw [e8]; rfl
  have f4 : c4 l = down t2 4#32 (x l) (c8 l) := by
    rw [e4]; unfold down; rw [← loadIdx_lane t2 c8 h8 l]; rfl
  have f2 : c2 l = down t1 2#32 (x l) (c4 l) := by
    rw [e2]; unfold down; rw [← loadIdx_lane t1 c4 h4 l]; rfl
  unfold walk
  rw [← f8, ← f4, ← f2]
  show c2 l ||| bit 1#32 (x l) (loadIdx b ![c2] h2 l) = _
  rw [loadIdx_lane]; rfl

/-! ## The steps of a trip -/

section Steps

variable {c : Thread nD τ} {defs : Defs nD τ sig (Elt F) Λ₀} {α : Type}

/-- A load of a whole table, holding it. -/
theorem step_lookup {Q : α → sProp 𝕄} {s : Shape} {e : EltTy} {base : Memref sig c.2.kind .vmem s e}
    {hl : base.view.LoadsAt (LoadRect.whole s)} {k : Vec F s e → Prog (TpuEff nD τ sig (Elt F) Λ₀ c.2) α}
    {f : Buf (Elt F) (base.view.loc c)} {v : Vec F s e} (hv : base.view.read (Elt F) f = v) :
    (base.view.loc c ↦{fullShare} f)
      ⊢ iprop(((base.view.loc c ↦{fullShare} f) -∗ wp frame (wpE defs 𝒱₀ c none) Set.univ (k v) Q)
        -∗ wp frame (wpE defs 𝒱₀ c none) Set.univ (.op (.load (cs := .vmem) base (LoadRect.whole s) hl) k) Q) := by
  have e : (base.access (.whole s)).read (Elt F) f = v := by
    rw [← hv]; funext x
    show cast _ (f (base.view.emb ((Rect.whole s).emb x))) = cast _ (f (base.view.emb x))
    rw [Rect.emb_whole_apply]
  rw [← e]
  exact wp_load_rect 𝒱₀ c none Set.univ (m := base) (r := Rect.whole s) (S := Finset.univ) (q := fullShare) (Finset.subset_univ _)

/-- A load of sixteen elements, holding the chunk. -/
theorem step_load {Q : α → sProp 𝕄} {s : Shape} {e : EltTy} {m : Memref sig c.2.kind .vmem s e} {r : LoadRect s} {hl : m.view.LoadsAt r}
    {k : (r.shape.Idx → Elt F e) → Prog (TpuEff nD τ sig (Elt F) Λ₀ c.2) α} {f : Buf (Elt F) (m.view.loc c)} :
    (m.view.loc c ↦{fullShare} f)
      ⊢ iprop(((m.view.loc c ↦{fullShare} f) -∗ wp frame (wpE defs 𝒱₀ c none) Set.univ (k (m.view.readAt (Elt F) r f)) Q)
        -∗ wp frame (wpE defs 𝒱₀ c none) Set.univ (.op (.load (cs := .vmem) m r hl) k) Q) :=
  wp_load 𝒱₀ c none Set.univ (S := Finset.univ) (Finset.subset_univ _)

/-- The output chunk with its first `n` elements what `want` says. -/
def upTo (c : Thread nD τ) (m : Memref sig c.2.kind .vmem S16384 .i32) (want : S16384.Idx → BitVec 32) (n : ℕ) : sProp 𝕄 :=
  iprop(∃ g, ⌜∀ j : S16384.Idx, (j 0).val < n → m.view.read (Elt F) g j = want j⌝ ∗ m.view.loc c ↦{fullShare} g)

/-- A load from the output chunk, whatever it reads. -/
theorem step_peek {Q : α → sProp 𝕄} {m : Memref sig c.2.kind .vmem S16384 .i32} {want : S16384.Idx → BitVec 32} {n : ℕ} {r : LoadRect S16384}
    {hl : m.view.LoadsAt r} {P : Prog (TpuEff nD τ sig (Elt F) Λ₀ c.2) α} :
    upTo c m want n
      ⊢ iprop((upTo c m want n -∗ wp frame (wpE defs 𝒱₀ c none) Set.univ P Q)
        -∗ wp frame (wpE defs 𝒱₀ c none) Set.univ (.op (.load (cs := .vmem) m r hl) fun _ => P) Q) := by
  unfold upTo
  iintro ⟨%g, %hg, H⟩ HK
  iapply (step_load (m := m) (r := r)) $$ H
  iintro H
  iapply HK
  iexists g; isplitr
  · ipureintro; exact hg
  · iexact H

/-- A store of sixteen elements at the end of the finished part, each what `want` says: the finished part grows by them. -/
theorem step_put {Q : α → sProp 𝕄} {m : Memref sig c.2.kind .vmem S16384 .i32} {want : S16384.Idx → BitVec 32} {off : Fin 1 → ℕ} {n n' : ℕ}
    {inb : ∀ a, off a + S16.size a ≤ S16384.size a} {w : S16.Idx → BitVec 32}
    {hx : (m.access (Rect.unit (s := S16384) off S16.size inb)).Stores Finset.univ}
    {hm : (Finset.univ : Finset (Rect.unit (s := S16384) off S16.size inb).shape.Idx) = Finset.univ
      ∨ ∀ a, (Rect.unit (s := S16384) off S16.size inb).stride a = 1}
    {k : PUnit → Prog (TpuEff nD τ sig (Elt F) Λ₀ c.2) α}
    (hoff : off = ![n]) (hn : n' = n + 16)
    (hw : ∀ l : S16.Idx, w l = want ((Rect.unit (s := S16384) off S16.size inb).emb l)) :
    upTo c m want n
      ⊢ iprop((upTo c m want n' -∗ wp frame (wpE defs 𝒱₀ c none) Set.univ (k ⟨⟩) Q)
        -∗ wp frame (wpE defs 𝒱₀ c none) Set.univ
            (.op (.store m (Rect.unit (s := S16384) off S16.size inb) w Finset.univ hx hm) k) Q) := by
  unfold upTo
  iintro ⟨%g, %hg, H⟩ HK
  iapply (wp_store 𝒱₀ c none Set.univ (m := m) (r := Rect.unit (s := S16384) off S16.size inb) (Mk := Finset.univ) (S := Finset.univ) (f := g) (Finset.subset_univ _)) $$ [H]
  · iexact H
  iintro H
  iapply HK
  iexists _; isplitr
  rotate_left
  · iexact H
  ipureintro; intro j hj
  by_cases hjn : (j 0).val < n
  · exact (View.read_writes_cons_unit_of_not_mem m.view g inb w [] j hoff 0 (.inl hjn)).trans (hg j hjn)
  · have hl : (j 0).val - n < 16 := by omega
    obtain ⟨l, e⟩ : ∃ l : S16.Idx, (l 0).val = (j 0).val - n := ⟨fun a => ⟨(j 0).val - n, by
      obtain rfl : a = 0 := Subsingleton.elim _ _
      exact hl⟩, rfl⟩
    refine (View.read_writes_cons_unit_of_mem m.view g inb w [] j l hoff fun a => ?_).trans ((hw l).trans (congrArg want ?_))
    · obtain rfl : a = 0 := Subsingleton.elim _ _
      show (j 0).val = n + (l 0).val; omega
    · subst hoff; funext a; obtain rfl : a = 0 := Subsingleton.elim _ _
      apply Fin.ext; show n + 1 * (l 0).val = (j 0).val; omega

/-- One vector of a trip: sixteen elements of the input chunk are coded into the same places of the output chunk. -/
theorem step_word {Q : α → sProp 𝕄} {mi : Memref sig c.2.kind .vmem S16384 .f32} {fi : Buf (Elt F) (mi.view.loc c)}
    {m : Memref sig c.2.kind .vmem S16384 .i32} {code : Elt F .f32 → BitVec 32} {off off' : Fin 1 → ℕ} {n : ℕ} {r : LoadRect S16384}
    {inb : ∀ a, off a + S16.size a ≤ S16384.size a} {inb' : ∀ a, off' a + S16.size a ≤ S16384.size a} {w : S16.Idx → BitVec 32}
    {hl : m.view.LoadsAt r} {hx : (m.access (Rect.unit (s := S16384) off' S16.size inb')).Stores Finset.univ}
    {hm : (Finset.univ : Finset (Rect.unit (s := S16384) off' S16.size inb').shape.Idx) = Finset.univ
      ∨ ∀ a, (Rect.unit (s := S16384) off' S16.size inb').stride a = 1}
    {k : PUnit → Prog (TpuEff nD τ sig (Elt F) Λ₀ c.2) α}
    (hoff : off = ![n]) (hoff' : off' = ![n])
    (hw : ∀ l : S16.Idx, w l = code (mi.view.readAt (Elt F) (Rect.unit (s := S16384) off S16.size inb).toLoadRect fi l)) :
    upTo c m (fun j => code (mi.view.read (Elt F) fi j)) n
      ⊢ iprop((upTo c m (fun j => code (mi.view.read (Elt F) fi j)) (n + 16) -∗ wp frame (wpE defs 𝒱₀ c none) Set.univ (k ⟨⟩) Q)
        -∗ wp frame (wpE defs 𝒱₀ c none) Set.univ
            (.op (.load (cs := .vmem) m r hl) fun _ =>
              .op (.store m (Rect.unit (s := S16384) off' S16.size inb') w Finset.univ hx hm) k) Q) := by
  subst hoff; subst hoff'
  iintro H HK
  iapply (step_peek (m := m)) $$ H
  iintro H
  iapply (step_put (m := m) (n := n) rfl rfl hw) $$ H
  iexact HK

end Steps

/-! ## One trip -/

section Trip

variable (d : Dev nD) (L : grid0.Coords)
  (a2 : Memref sig .scVector .hbm S16777216 .f32) (h2 : a2.IsWhole) (a3 : Memref sig .scVector .hbm S16 .f32) (h3 : a3.IsWhole)
  (a4 : Memref sig .scVector .hbm S16777216 .i32) (h4 : a4.IsWhole) (a5 : Memref sig .scVector .vmem S16 .f32) (h5 : a5.IsWhole)
  (a6 : Memref sig .scVector .vmem S16 .f32) (h6 : a6.IsWhole) (a7 : Memref sig .scVector .vmem S16 .f32) (h7 : a7.IsWhole)
  (a8 : Memref sig .scVector .vmem S16384 .f32) (h8 : a8.IsWhole) (a9 : Memref sig .scVector .vmem S16384 .f32) (h9 : a9.IsWhole)
  (a10 : Memref sig .scVector .vmem S16384 .i32) (h10 : a10.IsWhole) (a11 : Memref sig .scVector .vmem S16384 .i32) (h11 : a11.IsWhole)
  (s0 s1 s2 s3 s4 : DmaSems sig S_)
  (p : Elt F .f32) (t2 t1 b : Vec F S16 .f32)

/-- The three tables in tile memory. -/
def tables (c : Thread nD τ) (m5 m6 m7 : Memref sig c.2.kind .vmem S16 .f32) (t2 t1 b : Vec F S16 .f32) : sProp 𝕄 :=
  iprop(∃ f5 f6 f7, ⌜m5.view.read (Elt F) f5 = b ∧ m6.view.read (Elt F) f6 = t2 ∧ m7.view.read (Elt F) f7 = t1⌝
    ∗ (m5.view.loc c ↦{fullShare} f5) ∗ (m6.view.loc c ↦{fullShare} f6) ∗ (m7.view.loc c ↦{fullShare} f7))

set_option maxHeartbeats 1000000 in
/-- A trip: the next 128 elements of the input chunk are coded into the output chunk. -/
theorem trip (k : Fin k0_t1_loop.trips) (fi : Buf (Elt F) (a8.view.loc (V d (cV L) (jV L)))) :
    iprop(tables (V d (cV L) (jV L)) a5 a6 a7 t2 t1 b ∗ (a8.view.loc (V d (cV L) (jV L)) ↦{fullShare} fi)
        ∗ upTo (V d (cV L) (jV L)) a10 (fun j => walk p t2 t1 b (a8.view.read (Elt F) fi j)) (128 * k.val))
      ⊢ wp frame (wpE (defs₀ (F := F)) 𝒱₀ (V d (cV L) (jV L)) none) Set.univ
          (k0_t1_body L a2 h2 a3 h3 a4 h4 a5 h5 a6 h6 a7 h7 a8 h8 a9 h9 a10 h10 a11 h11 s0 s1 s2 s3 s4 (broadcast S16 p) k ⟨⟩)
          fun _ => iprop(tables (V d (cV L) (jV L)) a5 a6 a7 t2 t1 b ∗ (a8.view.loc (V d (cV L) (jV L)) ↦{fullShare} fi)
            ∗ upTo (V d (cV L) (jV L)) a10 (fun j => walk p t2 t1 b (a8.view.read (Elt F) fi j)) (128 * (k.val + 1))) := by
  unfold k0_t1_body
  simp only [k0_part1_eq_skeleton, k0_part2_eq_skeleton, k0_part3_eq_skeleton, k0_part4_eq_skeleton, k0_part5_eq_skeleton,
    k0_part6_eq_skeleton]
  unfold k0_part1_skel k0_part2_skel k0_part3_skel k0_part4_skel k0_part5_skel k0_part6_skel
  simp only [Prog.lift, Prog.bind_op, Prog.bind_ret, Prog.pure_eq_ret, SparseCore.vectorLoadIdx, k0_pay19, k0_pay20]
  iintro ⟨HT, Hi, Ho⟩
  unfold tables
  icases HT with ⟨%f5, %f6, %f7, %hT, H5, H6, H7⟩
  obtain ⟨e5, e6, e7⟩ := hT
  iterate 8
    iapply (step_load (c := V d (cV L) (jV L)) (m := a8)) $$ Hi
    iintro Hi
  iterate 8
    iapply (wp_assume 𝒱₀ (V d (cV L) (jV L)) none Set.univ (chk_first _ _))
  iterate 8
    iapply (step_lookup (c := V d (cV L) (jV L)) (base := a6) e6) $$ H6
    iintro H6
  iterate 8
    iapply (wp_assume 𝒱₀ (V d (cV L) (jV L)) none Set.univ (chk_next (by decide) (chk_first _ _) _ _))
  iterate 8
    iapply (step_lookup (c := V d (cV L) (jV L)) (base := a7) e7) $$ H7
    iintro H7
  iterate 8
    iapply (wp_assume 𝒱₀ (V d (cV L) (jV L)) none Set.univ (chk_next (by decide) (chk_next (by decide) (chk_first _ _) _ _) _ _))
  iterate 8
    iapply (step_lookup (c := V d (cV L) (jV L)) (base := a5) e5) $$ H5
    iintro H5
  iapply (step_word (c := V d (cV L) (jV L)) (mi := a8) (m := a10) (code := walk p t2 t1 b) (k0_off2_eq k 0) (k0_off3_eq k 0)
    fun l => by exact stored_eq p t2 t1 b _ _ _ _ _ _ _ _ rfl rfl rfl rfl l) $$ Ho
  iintro Ho
  iapply (step_word (c := V d (cV L) (jV L)) (mi := a8) (m := a10) (code := walk p t2 t1 b) (k0_off2_eq k 1) (k0_off3_eq k 1)
    fun l => by exact stored_eq p t2 t1 b _ _ _ _ _ _ _ _ rfl rfl rfl rfl l) $$ Ho
  iintro Ho
  iapply (step_word (c := V d (cV L) (jV L)) (mi := a8) (m := a10) (code := walk p t2 t1 b) (k0_off2_eq k 2) (k0_off3_eq k 2)
    fun l => by exact stored_eq p t2 t1 b _ _ _ _ _ _ _ _ rfl rfl rfl rfl l) $$ Ho
  iintro Ho
  iapply (step_word (c := V d (cV L) (jV L)) (mi := a8) (m := a10) (code := walk p t2 t1 b) (k0_off2_eq k 3) (k0_off3_eq k 3)
    fun l => by exact stored_eq p t2 t1 b _ _ _ _ _ _ _ _ rfl rfl rfl rfl l) $$ Ho
  iintro Ho
  iapply (step_word (c := V d (cV L) (jV L)) (mi := a8) (m := a10) (code := walk p t2 t1 b) (k0_off2_eq k 4) (k0_off3_eq k 4)
    fun l => by exact stored_eq p t2 t1 b _ _ _ _ _ _ _ _ rfl rfl rfl rfl l) $$ Ho
  iintro Ho
  iapply (step_word (c := V d (cV L) (jV L)) (mi := a8) (m := a10) (code := walk p t2 t1 b) (k0_off2_eq k 5) (k0_off3_eq k 5)
    fun l => by exact stored_eq p t2 t1 b _ _ _ _ _ _ _ _ rfl rfl rfl rfl l) $$ Ho
  iintro Ho
  iapply (step_word (c := V d (cV L) (jV L)) (mi := a8) (m := a10) (code := walk p t2 t1 b) (k0_off2_eq k 6) (k0_off3_eq k 6)
    fun l => by exact stored_eq p t2 t1 b _ _ _ _ _ _ _ _ rfl rfl rfl rfl l) $$ Ho
  iintro Ho
  iapply (step_word (c := V d (cV L) (jV L)) (mi := a8) (m := a10) (code := walk p t2 t1 b) (k0_off2_eq k 7) (k0_off3_eq k 7)
    fun l => by exact stored_eq p t2 t1 b _ _ _ _ _ _ _ _ rfl rfl rfl rfl l) $$ Ho
  iintro Ho
  iapply (le_wp_ret _ _)
  isplitl [H5 H6 H7]
  · iexists f5; iexists f6; iexists f7
    isplitr
    · ipureintro; exact ⟨e5, e6, e7⟩
    isplitl [H5]
    · iexact H5
    isplitl [H6]
    · iexact H6
    iexact H7
  isplitl [Hi]
  · iexact Hi
  iexact Ho

end Trip

end Cert.Digi

end
-- ==== Proof.Loop.lean ====
/-
  The vector loop of one chunk: 128 trips code every element of the input chunk into the output chunk. The kernel
  writes the loop six times, three over one pair of chunks and three over the other; all are the first one's text.
-/
module

public import proofs.«01_k».proof.Proof.Trip

@[expose] public section

noncomputable section

namespace Cert.Digi

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

section Bodies

variable (d : Dev nD) (L : grid0.Coords)
  (a2 : Memref sig .scVector .hbm S16777216 .f32) (h2 : a2.IsWhole) (a3 : Memref sig .scVector .hbm S16 .f32) (h3 : a3.IsWhole)
  (a4 : Memref sig .scVector .hbm S16777216 .i32) (h4 : a4.IsWhole) (a5 : Memref sig .scVector .vmem S16 .f32) (h5 : a5.IsWhole)
  (a6 : Memref sig .scVector .vmem S16 .f32) (h6 : a6.IsWhole) (a7 : Memref sig .scVector .vmem S16 .f32) (h7 : a7.IsWhole)
  (a8 : Memref sig .scVector .vmem S16384 .f32) (h8 : a8.IsWhole) (a9 : Memref sig .scVector .vmem S16384 .f32) (h9 : a9.IsWhole)
  (a10 : Memref sig .scVector .vmem S16384 .i32) (h10 : a10.IsWhole) (a11 : Memref sig .scVector .vmem S16384 .i32) (h11 : a11.IsWhole)
  (s0 s1 s2 s3 s4 : DmaSems sig S_) (v3 : Vec F S16 .f32) (v17 u1 u2 : BitVec 32)

set_option maxRecDepth 65536
set_option maxHeartbeats 2000000

/-- The second loop is the first at the other pair of chunks. -/
theorem body2_eq : k0_t2_body L a2 h2 a3 h3 a4 h4 a5 h5 a6 h6 a7 h7 a8 h8 a9 h9 a10 h10 a11 h11 s0 s1 s2 s3 s4 v3 v17
    = k0_t1_body L a2 h2 a3 h3 a4 h4 a5 h5 a6 h6 a7 h7 a9 h9 a8 h8 a11 h11 a10 h10 s0 s1 s2 s3 s4 v3 := rfl

/-- The third is the first. -/
theorem body4_eq (k3 : Fin k0_t3_loop.trips) :
    k0_t4_body L a2 h2 a3 h3 a4 h4 a5 h5 a6 h6 a7 h7 a8 h8 a9 h9 a10 h10 a11 h11 s0 s1 s2 s3 s4 v3 v17 u1 u2 k3
    = k0_t1_body L a2 h2 a3 h3 a4 h4 a5 h5 a6 h6 a7 h7 a8 h8 a9 h9 a10 h10 a11 h11 s0 s1 s2 s3 s4 v3 := rfl

/-- The fourth is the second, -/
theorem body5_eq : k0_t5_body L a2 h2 a3 h3 a4 h4 a5 h5 a6 h6 a7 h7 a8 h8 a9 h9 a10 h10 a11 h11 s0 s1 s2 s3 s4 v3 v17 0#32
    = k0_t1_body L a2 h2 a3 h3 a4 h4 a5 h5 a6 h6 a7 h7 a9 h9 a8 h8 a11 h11 a10 h10 s0 s1 s2 s3 s4 v3 := rfl

/-- the fifth the first, -/
theorem body6_eq : k0_t6_body L a2 h2 a3 h3 a4 h4 a5 h5 a6 h6 a7 h7 a8 h8 a9 h9 a10 h10 a11 h11 s0 s1 s2 s3 s4 v3 v17
    = k0_t1_body L a2 h2 a3 h3 a4 h4 a5 h5 a6 h6 a7 h7 a8 h8 a9 h9 a10 h10 a11 h11 s0 s1 s2 s3 s4 v3 := rfl

/-- and the sixth the second. -/
theorem body7_eq : k0_t7_body L a2 h2 a3 h3 a4 h4 a5 h5 a6 h6 a7 h7 a8 h8 a9 h9 a10 h10 a11 h11 s0 s1 s2 s3 s4 v3
    = k0_t1_body L a2 h2 a3 h3 a4 h4 a5 h5 a6 h6 a7 h7 a9 h9 a8 h8 a11 h11 a10 h10 s0 s1 s2 s3 s4 v3 := rfl

variable (p : Elt F .f32) (t2 t1 b : Vec F S16 .f32)

/-- The loop: from any output chunk, every element of the input chunk is coded. -/
theorem loop {α : Type} {Q : α → sProp 𝕄}
    {kk : Unit → Prog (TpuEff nD τ sig (Elt F) Λ₀ (.scVector ((L 0).castLE hcore0) ((L 1).castLE hsub0))) α}
    (fi : Buf (Elt F) (a8.view.loc (V d (cV L) (jV L)))) (g : Buf (Elt F) (a10.view.loc (V d (cV L) (jV L)))) :
    iprop(tables (V d (cV L) (jV L)) a5 a6 a7 t2 t1 b ∗ (a8.view.loc (V d (cV L) (jV L)) ↦{fullShare} fi)
        ∗ (a10.view.loc (V d (cV L) (jV L)) ↦{fullShare} g))
      ⊢ iprop(((tables (V d (cV L) (jV L)) a5 a6 a7 t2 t1 b ∗ (a8.view.loc (V d (cV L) (jV L)) ↦{fullShare} fi)
          ∗ upTo (V d (cV L) (jV L)) a10 (fun j => walk p t2 t1 b (a8.view.read (Elt F) fi j)) 16384)
            -∗ wp frame (wpE (defs₀ (F := F)) 𝒱₀ (V d (cV L) (jV L)) none) Set.univ (kk ⟨⟩) Q)
        -∗ wp frame (wpE (defs₀ (F := F)) 𝒱₀ (V d (cV L) (jV L)) none) Set.univ
          (Scf.Loop.for k0_t1_loop k0_t1_ok ⟨⟩
            (k0_t1_body L a2 h2 a3 h3 a4 h4 a5 h5 a6 h6 a7 h7 a8 h8 a9 h9 a10 h10 a11 h11 s0 s1 s2 s3 s4 (broadcast S16 p)) >>= kk) Q) := by
  iintro ⟨HT, Hi, Ho⟩ HK
  sl_for (fun (k : ℕ) (_ : Unit) => iprop(tables (V d (cV L) (jV L)) a5 a6 a7 t2 t1 b ∗ (a8.view.loc (V d (cV L) (jV L)) ↦{fullShare} fi)
      ∗ upTo (V d (cV L) (jV L)) a10 (fun j => walk p t2 t1 b (a8.view.read (Elt F) fi j)) (128 * k))) $$ [HT Hi Ho]
  · intro k acc
    exact trip d L a2 h2 a3 h3 a4 h4 a5 h5 a6 h6 a7 h7 a8 h8 a9 h9 a10 h10 a11 h11 s0 s1 s2 s3 s4 p t2 t1 b k fi
  · isplitl [HT]
    · iexact HT
    isplitl [Hi]
    · iexact Hi
    unfold upTo
    iexists g; isplitr
    · ipureintro; intro j hj; exact absurd hj (by omega)
    · iexact Ho
  iintro %acc H
  iapply HK
  iexact H

end Bodies

end Cert.Digi

end
-- ==== Proof.Moves.lean ====
/-
  The transfers of one tile. The input and the result lie in 1024 chunks of 16384 elements; a tile takes thirty-two
  consecutive ones. A fetch brings a chunk of the input into a buffer of tile memory, a send brings a coded chunk out;
  each is issued on a semaphore of its own and waited for there, never two at a time.
-/
module

public import proofs.«01_k».proof.Proof.Loop
public import Idealize.ShloMosaic.Lib.Transfers

@[expose] public section

noncomputable section

namespace Cert.Digi

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## The arrays and their chunks -/

abbrev xLoc (d : Dev nD) : Loc nD τ sig := (SparseCore.T d).loc main_arg0
abbrev vLoc (d : Dev nD) : Loc nD τ sig := (SparseCore.T d).loc main_v1
abbrev oLoc (d : Dev nD) : Loc nD τ sig := (SparseCore.T d).loc main_v2

abbrev xV : Memref sig .scVector .hbm S16777216 .f32 := Memref.whole main_arg0_scv
abbrev vV : Memref sig .scVector .hbm S16 .f32 := Memref.whole main_v1_scv
abbrev oV : Memref sig .scVector .hbm S16777216 .i32 := Memref.whole main_v2_scv

/-- The indices of chunk `q`. -/
def chunk (q : ℕ) : Finset S16777216.Idx := Finset.univ.filter fun i => (i 0).val / 16384 = q

/-- A rectangle of one chunk's size at one chunk's offset covers that chunk. -/
theorem set_chunk {off : Fin 1 → ℕ} {q : ℕ} (inb : ∀ a, off a + S16384.size a ≤ S16777216.size a) (h : off = ![16384 * q]) :
    (Rect.unit (s := S16777216) off S16384.size inb).set = chunk q := by
  subst h
  ext i
  rw [Rect.mem_set_unit]
  unfold chunk
  rw [Finset.mem_filter]
  constructor
  · intro h
    have h0 : 16384 * q ≤ (i 0).val ∧ (i 0).val < 16384 * q + 16384 := h 0
    exact ⟨Finset.mem_univ _, by omega⟩
  · rintro ⟨-, h⟩ a
    obtain rfl : a = 0 := Subsingleton.elim _ _
    show 16384 * q ≤ (i 0).val ∧ (i 0).val < 16384 * q + 16384
    omega

variable (d : Dev nD) (L : grid0.Coords)

/-- The chunk-`q` window of the input as a tile slices it, -/
theorem pts_x {off : Fin 1 → ℕ} {q : ℕ} (inb : ∀ a, off a + S16384.size a ≤ S16777216.size a) (h : off = ![16384 * q])
    (X : Buf (Elt F) (xLoc d)) :
    ((xV.slice (Rect.unit (s := S16777216) off S16384.size inb) (fun _ => rfl)).view.loc (V d (cV L) (jV L))
      ↦[(xV.slice (Rect.unit (s := S16777216) off S16384.size inb) (fun _ => rfl)).view.set]{fullShare} X : sProp 𝕄)
      = (xLoc d ↦[chunk q]{fullShare} X) := by
  have e : (xV.slice (Rect.unit (s := S16777216) off S16384.size inb) (fun _ => rfl)).view.set = chunk q := by
    show ((View.whole (main_arg0_scv : Ref sig .scVector)).slice _).set = _
    rw [View.set_slice]; exact Finset.map_refl.trans (set_chunk inb h)
  rw [e]

/-- and of the result. -/
theorem set_o {off : Fin 1 → ℕ} {q : ℕ} (inb : ∀ a, off a + S16384.size a ≤ S16777216.size a) (h : off = ![16384 * q]) :
    (oV.slice (Rect.unit (s := S16777216) off S16384.size inb) (fun _ => rfl)).view.set = chunk q := by
  show ((View.whole (main_v2_scv : Ref sig .scVector)).slice _).set = _
  rw [View.set_slice]; exact Finset.map_refl.trans (set_chunk inb h)

/-! ## What the tile may wait under -/

/-- What the tile owes stays what it was; its waits are all its own. -/
def duty (c : Thread nD τ) (O : CellTallies nD τ sig (HIx 1)) (W : Waits sig (HIx 1)) : sProp 𝕄 :=
  iprop(Transfers.MayWaits c (none : HIx 1) O ∗ ∃ W', ⌜∀ p ∈ W', p ∈ W ∨ p.2 = none⌝ ∗ owes c O W')

/-- A wait for a transfer in flight. -/
theorem step_wait {c : Thread nD τ} {defs : Defs nD τ sig (Elt F) Λ₀} {α : Type} {Q : α → sProp 𝕄} {O : CellTallies nD τ sig (HIx 1)}
    {W : Waits sig (HIx 1)} {sp sp' : Space} {s s' : Shape} {e e' : EltTy} {κ' : Kind} {sem : DmaSem sig}
    {srcw : Memref sig c.2.kind sp' s' e'} {dstw : Memref sig κ' sp s e} {hsrc : srcw.view.WordExact} {hdst : dstw.view.WordExact}
    {k : PUnit → Prog (TpuEff nD τ sig (Elt F) Λ₀ c.2) α} {N : ℕ} {D : sProp 𝕄} (hN : dstw.view.dmaCredit = N) :
    iprop(Transfers.Flight countersEmb c (.dma sem) (none : HIx 1) N D ∗ duty c O W)
      ⊢ iprop(((D ∗ semVal (c, .dma sem) 0 ∗ duty c O W) -∗ wp frame (wpE defs 𝒱₀ c none) Set.univ (k ⟨⟩) Q)
        -∗ wp frame (wpE defs 𝒱₀ c none) Set.univ (.op (.waitDma2 sem srcw dstw hsrc hdst) k) Q) := by
  unfold duty
  iintro ⟨HF, #HM, %W', %hW', HO⟩ HK
  iapply (Transfers.wp_waitLocalO countersEmb 𝒱₀ c none (none : HIx 1) hN (D := D) (O := O) (W := W')) $$ [HF HO]
  · isplitl [HF]
    · iexact HF
    isplitl [HO]
    · iexact HO
    iapply (Transfers.MayWaits.elim (SemLoc.dma sem)); iexact HM
  iintro ⟨HD, Hs, HO⟩
  iapply HK
  isplitl [HD]
  · iexact HD
  isplitl [Hs]
  · iexact Hs
  isplitr
  · iexact HM
  iexists _; isplitr
  rotate_left
  · iexact HO
  ipureintro; intro p hp
  rcases Finset.mem_insert.mp hp with rfl | hp
  · exact .inr rfl
  · exact hW' p hp

/-! ## Fetches -/

section Fetch

variable (X : Buf (Elt F) (xLoc d))

/-- The input buffer at some contents; -/
def free {sp : Space} {s : Shape} {e : EltTy} (c : Thread nD τ) (m : Memref sig c.2.kind sp s e) : sProp 𝕄 :=
  iprop(∃ f, m.view.loc c ↦{fullShare} f)

/-- and holding chunk `q` of the input. -/
def holds (m : Memref sig .scVector .vmem S16384 .f32) (q : ℕ) (f : Buf (Elt F) (m.view.loc (V d (cV L) (jV L)))) : Prop :=
  ∀ (i : S16777216.Idx) (j : S16384.Idx), (i 0).val = 16384 * q + (j 0).val → m.view.read (Elt F) f j = X i

def full (m : Memref sig .scVector .vmem S16384 .f32) (q : ℕ) : sProp 𝕄 :=
  iprop(∃ f, ⌜holds d L X m q f⌝ ∗ m.view.loc (V d (cV L) (jV L)) ↦{fullShare} f)

/-- A fetch of chunk `q` in flight: it will deliver the buffer holding the chunk, and the chunk. -/
def fetching (s : DmaSem sig) (m : Memref sig .scVector .vmem S16384 .f32) (q : ℕ) : sProp 𝕄 :=
  Transfers.Flight countersEmb (V d (cV L) (jV L)) (.dma s) (none : HIx 1) m.view.dmaCredit
    iprop(full d L X m q ∗ xLoc d ↦[chunk q]{fullShare} X)

/-- What a fetch lands is the chunk. -/
theorem holds_fetched (m : Memref sig .scVector .vmem S16384 .f32) {off : Fin 1 → ℕ} {q : ℕ}
    (inb : ∀ a, off a + S16384.size a ≤ S16777216.size a) (h : off = ![16384 * q]) (f : Buf (Elt F) (m.view.loc (V d (cV L) (jV L)))) :
    holds d L X m q (m.view.write (Elt F) f
      ((xV.slice (Rect.unit (s := S16777216) off S16384.size inb) (fun _ => rfl)).view.read (Elt F) X) Finset.univ) := by
  subst h
  intro i j hij
  rw [View.read_write_univ]
  refine congrArg X (funext fun a : Fin 1 => ?_)
  obtain rfl : a = 0 := Subsingleton.elim _ _
  apply Fin.ext
  show 16384 * q + 1 * (j 0).val = (i 0).val
  omega

/-- A fetch is issued. -/
theorem step_fetch {defs : Defs nD τ sig (Elt F) Λ₀} {α : Type} {Q : α → sProp 𝕄} {s : DmaSem sig}
    {m : Memref sig .scVector .vmem S16384 .f32} (hm : m.IsWhole) {off : Fin 1 → ℕ} {q : ℕ}
    {inb : ∀ a, off a + S16384.size a ≤ S16777216.size a} (h : off = ![16384 * q])
    {hsrc : (xV.slice (Rect.unit (s := S16777216) off S16384.size inb) (fun _ => rfl)).view.WordExact} {hdst : m.view.WordExact}
    {hsem : DmaTarget.Typed (nD := nD) (sig := sig) (τ := τ) (p := .scVector (cV L) (jV L)) .hbm (.dma s) (.here m)}
    {k : PUnit → Prog (TpuEff nD τ sig (Elt F) Λ₀ (.scVector (cV L) (jV L))) α} :
    iprop((xLoc d ↦[chunk q]{fullShare} X) ∗ free (V d (cV L) (jV L)) m ∗ semVal (V d (cV L) (jV L), .dma s) 0)
      ⊢ iprop((fetching d L X s m q -∗ wp frame (wpE defs 𝒱₀ (V d (cV L) (jV L)) none) Set.univ (k ⟨⟩) Q)
        -∗ wp frame (wpE defs 𝒱₀ (V d (cV L) (jV L)) none) Set.univ
          (.op (.enqueueDma (xV.slice (Rect.unit (s := S16777216) off S16384.size inb) (fun _ => rfl)) (.here m) (.dma s) hsrc hdst hsem) k) Q) := by
  unfold free
  iintro ⟨Hx, ⟨%f, Hm⟩, Hs⟩ HK
  iapply (Transfers.wp_dmaLocal countersEmb 𝒱₀ (V d (cV L) (jV L)) none (none : HIx 1) m.view.dmaCredit rfl
    (View.dmaCredit_pos _ (by decide)) (Sd := Finset.univ) (Finset.subset_univ _) (fs := X) (q := fullShare) (fd := f)) $$ [Hx Hm Hs]
  · isplitl [Hx]
    · ihave Hx := (Entails.of_eq (pts_x d L inb h X).symm) $$ Hx
      iexact Hx
    isplitl [Hm]
    · iexact Hm
    iexact Hs
  iintro HF
  iapply HK
  unfold fetching
  iapply (Transfers.Flight_mono countersEmb (V d (cV L) (jV L)) ?_) $$ HF
  iintro ⟨Hm, Hx⟩
  isplitl [Hm]
  · unfold full
    iexists _; isplitr
    rotate_left
    · iexact Hm
    ipureintro; exact holds_fetched d L X m inb h f
  · ihave Hx := (Entails.of_eq (pts_x d L inb h X)) $$ Hx
    iexact Hx

end Fetch

/-! ## Sends -/

section Send

variable (X : Buf (Elt F) (xLoc d)) (code : Elt F .f32 → BitVec 32)

/-- The result: every element's code. -/
def coded : Buf (Elt F) (oLoc d) := fun i : S16777216.Idx => code (X i)

/-- The output buffer holding the codes of chunk `q`. -/
def codes (m : Memref sig .scVector .vmem S16384 .i32) (q : ℕ) (g : Buf (Elt F) (m.view.loc (V d (cV L) (jV L)))) : Prop :=
  ∀ (i : S16777216.Idx) (j : S16384.Idx), (i 0).val = 16384 * q + (j 0).val → m.view.read (Elt F) g j = code (X i)

def ready (m : Memref sig .scVector .vmem S16384 .i32) (q : ℕ) : sProp 𝕄 :=
  iprop(∃ g, ⌜codes d L X code m q g⌝ ∗ m.view.loc (V d (cV L) (jV L)) ↦{fullShare} g)

/-- A send of chunk `q` in flight: it will deliver the chunk of the result, and the buffer. -/
def sending (s : DmaSem sig) (m : Memref sig .scVector .vmem S16384 .i32) (q : ℕ) : sProp 𝕄 :=
  Transfers.Flight countersEmb (V d (cV L) (jV L)) (.dma s) (none : HIx 1)
    (sig.dmaCredit .scVector (Kind.scVector.table .hbm) (main_v2_scv : Ref sig .scVector).idx S16384 .i32)
    iprop((oLoc d ↦[chunk q]{fullShare} coded d X code) ∗ free (V d (cV L) (jV L)) m)

/-- What a send of a coded chunk leaves in the chunk of the result. -/
theorem sent_coded {m : Memref sig .scVector .vmem S16384 .i32} {off : Fin 1 → ℕ} {q : ℕ}
    (inb : ∀ a, off a + S16384.size a ≤ S16777216.size a) (h : off = ![16384 * q])
    {g : Buf (Elt F) (m.view.loc (V d (cV L) (jV L)))} (hg : codes d L X code m q g) (fo : Buf (Elt F) (oLoc d)) :
    ∀ i ∈ chunk q, (oV.slice (Rect.unit (s := S16777216) off S16384.size inb) (fun _ => rfl)).view.write (Elt F) fo
      (m.view.read (Elt F) g) Finset.univ i = coded d X code i := by
  subst h
  intro i hq
  have h0 : (i 0).val / 16384 = q := (Finset.mem_filter.mp hq).2
  have hl : (i 0).val - 16384 * q < 16384 := by omega
  let j : S16384.Idx := fun a => ⟨(i 0).val - 16384 * q, by
    obtain rfl : a = 0 := Subsingleton.elim _ _
    exact hl⟩
  have hij : (i 0).val = 16384 * q + (j 0).val := by show (i 0).val = 16384 * q + ((i 0).val - 16384 * q); omega
  have ei : i = (oV.slice (Rect.unit (s := S16777216) ![16384 * q] S16384.size inb) (fun _ => rfl)).view.emb j := by
    refine funext fun a : Fin 1 => ?_
    obtain rfl : a = 0 := Subsingleton.elim _ _
    apply Fin.ext
    show (i 0).val = 16384 * q + 1 * (j 0).val
    omega
  conv_lhs => rw [ei]
  rw [View.write_emb_of_mem (h := Finset.mem_univ j)]
  exact hg i j hij

/-- A coded chunk is sent. -/
theorem step_send {defs : Defs nD τ sig (Elt F) Λ₀} {α : Type} {Q : α → sProp 𝕄} {s : DmaSem sig}
    {m : Memref sig .scVector .vmem S16384 .i32} (hm : m.IsWhole) {off : Fin 1 → ℕ} {q : ℕ}
    {inb : ∀ a, off a + S16384.size a ≤ S16777216.size a} (h : off = ![16384 * q])
    {hsrc : m.view.WordExact} {hdst : (oV.slice (Rect.unit (s := S16777216) off S16384.size inb) (fun _ => rfl)).view.WordExact}
    {hsem : DmaTarget.Typed (nD := nD) (sig := sig) (τ := τ) (p := .scVector (cV L) (jV L)) .vmem (.dma s)
      (.here (oV.slice (Rect.unit (s := S16777216) off S16384.size inb) (fun _ => rfl)))}
    {k : PUnit → Prog (TpuEff nD τ sig (Elt F) Λ₀ (.scVector (cV L) (jV L))) α} :
    iprop((∃ f, oLoc d ↦[chunk q]{fullShare} f)
        ∗ ready d L X code m q ∗ semVal (V d (cV L) (jV L), .dma s) 0)
      ⊢ iprop((sending d L X code s m q -∗ wp frame (wpE defs 𝒱₀ (V d (cV L) (jV L)) none) Set.univ (k ⟨⟩) Q)
        -∗ wp frame (wpE defs 𝒱₀ (V d (cV L) (jV L)) none) Set.univ
          (.op (.enqueueDma m (.here (oV.slice (Rect.unit (s := S16777216) off S16384.size inb) (fun _ => rfl))) (.dma s) hsrc hdst hsem) k) Q) := by
  unfold ready
  iintro ⟨⟨%fo, Ho⟩, ⟨%g, %hg, Hm⟩, Hs⟩ HK
  iapply (Transfers.wp_dmaLocal countersEmb 𝒱₀ (V d (cV L) (jV L)) none (none : HIx 1)
    (sig.dmaCredit .scVector (Kind.scVector.table .hbm) (main_v2_scv : Ref sig .scVector).idx S16384 .i32) rfl
    (sig.dmaCredit_pos _ _ _ _ _ (by decide)) (src := m)
    (dst := oV.slice (Rect.unit (s := S16777216) off S16384.size inb) (fun _ => rfl)) (Sd := chunk q) (set_o inb h).subset (fs := g) (q := fullShare) (fd := fo)) $$ [Ho Hm Hs]
  · isplitl [Hm]
    · rw [hm.set_eq_univ]; iexact Hm
    isplitl [Ho]
    · iexact Ho
    iexact Hs
  iintro HF
  iapply HK
  unfold sending
  iapply (Transfers.Flight_mono countersEmb (V d (cV L) (jV L)) ?_) $$ HF
  iintro ⟨Ho, Hm⟩
  isplitl [Ho]
  · ihave Ho := (Entails.of_eq (pointsTo_congr (sent_coded d L X code inb h hg fo))) $$ Ho
    iexact Ho
  · unfold free
    rw [hm.set_eq_univ]
    iexists _; iexact Hm

end Send

end Cert.Digi

end
-- ==== Proof.Steps.lean ====
/-
  What a tile does with one chunk: fetch it, wait for it, code it, send it, wait for the send. The chunks not yet
  fetched, those back from a fetch, those not yet sent and those sent are kept as four stacks, each step moving one
  chunk from or to the end of one.
-/
module

public import proofs.«01_k».proof.Proof.Moves

@[expose] public section

noncomputable section

namespace Cert.Digi

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## Stacks of chunks -/

/-- The first `n`, -/
def done (P : ℕ → sProp 𝕄) (n : ℕ) : sProp 𝕄 := bigSep (Finset.range n) P

/-- and all but the first `n`, of thirty-two. -/
def todo (P : ℕ → sProp 𝕄) (n : ℕ) : sProp 𝕄 := bigSep (Finset.Ico n 32) P

theorem done_put (P : ℕ → sProp 𝕄) (n : ℕ) : done P (n + 1) = iprop(P n ∗ done P n) := by
  unfold done
  rw [Finset.range_add_one, BI.bigSep_insert Finset.notMem_range_self]; rfl

theorem todo_take (P : ℕ → sProp 𝕄) {n : ℕ} (h : n < 32) : todo P n = iprop(P n ∗ todo P (n + 1)) := by
  unfold todo
  rw [← Finset.insert_Ico_add_one_left_eq_Ico h, BI.bigSep_insert (by simp)]; rfl

theorem done_zero (P : ℕ → sProp 𝕄) : done P 0 = iprop(emp) := by
  unfold done; rw [Finset.range_zero, BI.bigSep_empty]; rfl

theorem todo_zero (P : ℕ → sProp 𝕄) : todo P 0 = done P 32 := by
  unfold done todo; rw [Finset.range_eq_Ico]

/-! ## The offsets of a tile's chunks -/

/-- The number of a tile. -/
def wid (L : grid0.Coords) : ℕ := 2 * (L 1).val + (L 0).val

/-- Chunk `n` of tile `L`, among all. -/
def nth (L : grid0.Coords) (n : ℕ) : ℕ := 32 * wid L + n

variable (d : Dev nD) (L : grid0.Coords)

theorem off_head (n : ℕ) (hn : n < 32) : k0_off1 L (BitVec.ofNat 32 (16384 * n)) = ![16384 * nth L n] := by
  have h0 : (L 0).val < 2 := (L 0).isLt
  have h1 : (L 1).val < 16 := (L 1).isLt
  unfold k0_off1 nth wid
  refine congrArg (fun k : ℕ => ![k]) ?_
  simp only [Scalar.addi, Scalar.muli, IntOp.addi, IntOp.muli, BitVec.toNat_add, BitVec.toNat_mul, BitVec.toNat_ofNat]
  omega

theorem off_send (k : Fin k0_t3_loop.trips) (r : Fin 2) : k0_off6 L k (BitVec.ofNat 32 r.val) = ![16384 * nth L (2 * k.val + 2 + r.val)] := by
  rw [k0_off6_eq]; unfold nth wid
  exact congrArg (fun k : ℕ => ![k]) (by omega)

theorem off_fetch (k : Fin k0_t3_loop.trips) (r : Fin 2) : k0_off10 L k (BitVec.ofNat 32 r.val) = ![16384 * nth L (2 * k.val + 4 + r.val)] := by
  rw [k0_off10_eq]; unfold nth wid
  exact congrArg (fun k : ℕ => ![k]) (by omega)

/-! ## The steps -/

section Steps

variable (X : Buf (Elt F) (xLoc d)) (code : Elt F .f32 → BitVec 32)

/-- Chunk `n` of the tile: of the input, of the result before, and of the result after. -/
def xP (n : ℕ) : sProp 𝕄 := xLoc d ↦[chunk (nth L n)]{fullShare} X
def oI (n : ℕ) : sProp 𝕄 := iprop(∃ f, oLoc d ↦[chunk (nth L n)]{fullShare} f)
def oP (n : ℕ) : sProp 𝕄 := oLoc d ↦[chunk (nth L n)]{fullShare} coded d X code

variable {defs : Defs nD τ sig (Elt F) Λ₀} {α : Type} {O : CellTallies nD τ sig (HIx 1)} {W : Waits sig (HIx 1)}

/-- The next chunk's fetch is issued, -/
theorem next {Q : α → sProp 𝕄} {s : DmaSem sig} {m : Memref sig .scVector .vmem S16384 .f32} {n : ℕ} (hn : n < 32) (hm : m.IsWhole)
    {off : Fin 1 → ℕ} {inb : ∀ a, off a + S16384.size a ≤ S16777216.size a} (h : off = ![16384 * nth L n])
    {hsrc : (xV.slice (Rect.unit (s := S16777216) off S16384.size inb) (fun _ => rfl)).view.WordExact} {hdst : m.view.WordExact}
    {hsem : DmaTarget.Typed (nD := nD) (sig := sig) (τ := τ) (p := .scVector (cV L) (jV L)) .hbm (.dma s) (.here m)}
    {k : PUnit → Prog (TpuEff nD τ sig (Elt F) Λ₀ (.scVector (cV L) (jV L))) α} :
    free (V d (cV L) (jV L)) m ⊢ iprop(semVal (V d (cV L) (jV L), .dma s) 0 -∗ todo (xP d L X) n
      -∗ ((fetching d L X s m (nth L n) ∗ todo (xP d L X) (n + 1)) -∗ wp frame (wpE defs 𝒱₀ (V d (cV L) (jV L)) none) Set.univ (k ⟨⟩) Q)
      -∗ wp frame (wpE defs 𝒱₀ (V d (cV L) (jV L)) none) Set.univ
          (.op (.enqueueDma (xV.slice (Rect.unit (s := S16777216) off S16384.size inb) (fun _ => rfl)) (.here m) (.dma s) hsrc hdst hsem) k) Q) := by
  rw [todo_take _ hn]
  unfold xP
  iintro Hm Hs ⟨Hx, Ht⟩ HK
  iapply (step_fetch d L X hm h) $$ [Hx Hm Hs]
  · isplitl [Hx]
    · iexact Hx
    isplitl [Hm]
    · iexact Hm
    iexact Hs
  iintro HF
  iapply HK
  isplitl [HF]
  · iexact HF
  iexact Ht

/-- and waited for. -/
theorem landed {Q : α → sProp 𝕄} {s : DmaSem sig} {m : Memref sig .scVector .vmem S16384 .f32} {n : ℕ}
    {sp' : Space} {s' : Shape} {e' : EltTy} {srcw : Memref sig .scVector sp' s' e'} {hsrc : srcw.view.WordExact} {hdst : m.view.WordExact}
    {k : PUnit → Prog (TpuEff nD τ sig (Elt F) Λ₀ (.scVector (cV L) (jV L))) α} :
    fetching d L X s m (nth L n) ⊢ iprop(done (xP d L X) n -∗ duty (V d (cV L) (jV L)) O W
      -∗ ((full d L X m (nth L n) ∗ done (xP d L X) (n + 1) ∗ semVal (V d (cV L) (jV L), .dma s) 0 ∗ duty (V d (cV L) (jV L)) O W)
        -∗ wp frame (wpE defs 𝒱₀ (V d (cV L) (jV L)) none) Set.univ (k ⟨⟩) Q)
      -∗ wp frame (wpE defs 𝒱₀ (V d (cV L) (jV L)) none) Set.univ (.op (.waitDma2 s srcw m hsrc hdst) k) Q) := by
  rw [done_put]
  unfold xP
  iintro HF Hd HO HK
  unfold fetching
  iapply (step_wait (c := V d (cV L) (jV L)) (O := O) (W := W) rfl) $$ [HF HO]
  · isplitl [HF]
    · iexact HF
    iexact HO
  iintro ⟨⟨Hm, Hx⟩, Hs, HO⟩
  iapply HK
  isplitl [Hm]
  · iexact Hm
  isplitl [Hx Hd]
  · isplitl [Hx]
    · iexact Hx
    iexact Hd
  isplitl [Hs]
  · iexact Hs
  iexact HO

/-- A coded chunk's send is issued, -/
theorem out {Q : α → sProp 𝕄} {s : DmaSem sig} {m : Memref sig .scVector .vmem S16384 .i32} {n : ℕ} (hn : n < 32) (hm : m.IsWhole)
    {off : Fin 1 → ℕ} {inb : ∀ a, off a + S16384.size a ≤ S16777216.size a} (h : off = ![16384 * nth L n])
    {hsrc : m.view.WordExact} {hdst : (oV.slice (Rect.unit (s := S16777216) off S16384.size inb) (fun _ => rfl)).view.WordExact}
    {hsem : DmaTarget.Typed (nD := nD) (sig := sig) (τ := τ) (p := .scVector (cV L) (jV L)) .vmem (.dma s)
      (.here (oV.slice (Rect.unit (s := S16777216) off S16384.size inb) (fun _ => rfl)))}
    {k : PUnit → Prog (TpuEff nD τ sig (Elt F) Λ₀ (.scVector (cV L) (jV L))) α} :
    ready d L X code m (nth L n) ⊢ iprop(semVal (V d (cV L) (jV L), .dma s) 0 -∗ todo (oI d L) n
      -∗ ((sending d L X code s m (nth L n) ∗ todo (oI d L) (n + 1)) -∗ wp frame (wpE defs 𝒱₀ (V d (cV L) (jV L)) none) Set.univ (k ⟨⟩) Q)
      -∗ wp frame (wpE defs 𝒱₀ (V d (cV L) (jV L)) none) Set.univ
          (.op (.enqueueDma m (.here (oV.slice (Rect.unit (s := S16777216) off S16384.size inb) (fun _ => rfl))) (.dma s) hsrc hdst hsem) k) Q) := by
  rw [todo_take _ hn]
  unfold oI
  iintro Hm Hs ⟨Ho, Ht⟩ HK
  iapply (step_send d L X code hm h) $$ [Ho Hm Hs]
  · isplitl [Ho]
    · iexact Ho
    isplitl [Hm]
    · iexact Hm
    iexact Hs
  iintro HF
  iapply HK
  isplitl [HF]
  · iexact HF
  iexact Ht

/-- and waited for. -/
theorem sent {Q : α → sProp 𝕄} {s : DmaSem sig} {m : Memref sig .scVector .vmem S16384 .i32} {n : ℕ}
    {off : Fin 1 → ℕ} {inb : ∀ a, off a + S16384.size a ≤ S16777216.size a}
    {sp' : Space} {s' : Shape} {e' : EltTy} {srcw : Memref sig .scVector sp' s' e'} {hsrc : srcw.view.WordExact}
    {hdst : (oV.slice (Rect.unit (s := S16777216) off S16384.size inb) (fun _ => rfl)).view.WordExact}
    {k : PUnit → Prog (TpuEff nD τ sig (Elt F) Λ₀ (.scVector (cV L) (jV L))) α} :
    sending d L X code s m (nth L n) ⊢ iprop(done (oP d L X code) n -∗ duty (V d (cV L) (jV L)) O W
      -∗ ((free (V d (cV L) (jV L)) m ∗ done (oP d L X code) (n + 1) ∗ semVal (V d (cV L) (jV L), .dma s) 0 ∗ duty (V d (cV L) (jV L)) O W)
        -∗ wp frame (wpE defs 𝒱₀ (V d (cV L) (jV L)) none) Set.univ (k ⟨⟩) Q)
      -∗ wp frame (wpE defs 𝒱₀ (V d (cV L) (jV L)) none) Set.univ
          (.op (.waitDma2 s srcw (oV.slice (Rect.unit (s := S16777216) off S16384.size inb) (fun _ => rfl)) hsrc hdst) k) Q) := by
  rw [done_put]
  unfold oP
  iintro HF Hd HO HK
  unfold sending
  iapply (step_wait (c := V d (cV L) (jV L)) (O := O) (W := W) rfl) $$ [HF HO]
  · isplitl [HF]
    · iexact HF
    iexact HO
  iintro ⟨⟨Ho, Hm⟩, Hs, HO⟩
  iapply HK
  isplitl [Hm]
  · iexact Hm
  isplitl [Ho Hd]
  · isplitl [Ho]
    · iexact Ho
    iexact Hd
  isplitl [Hs]
  · iexact Hs
  iexact HO

end Steps

/-- The vector loop codes a fetched chunk into a free output buffer, whichever of the six it is. -/
theorem code_chunk (X : Buf (Elt F) (xLoc d)) (p : Elt F .f32) (t2 t1 b : Vec F S16 .f32)
  (a2 : Memref sig .scVector .hbm S16777216 .f32) (h2 : a2.IsWhole) (a3 : Memref sig .scVector .hbm S16 .f32) (h3 : a3.IsWhole)
  (a4 : Memref sig .scVector .hbm S16777216 .i32) (h4 : a4.IsWhole) (a5 : Memref sig .scVector .vmem S16 .f32) (h5 : a5.IsWhole)
  (a6 : Memref sig .scVector .vmem S16 .f32) (h6 : a6.IsWhole) (a7 : Memref sig .scVector .vmem S16 .f32) (h7 : a7.IsWhole)
  (a8 : Memref sig .scVector .vmem S16384 .f32) (h8 : a8.IsWhole) (a9 : Memref sig .scVector .vmem S16384 .f32) (h9 : a9.IsWhole)
  (a10 : Memref sig .scVector .vmem S16384 .i32) (h10 : a10.IsWhole) (a11 : Memref sig .scVector .vmem S16384 .i32) (h11 : a11.IsWhole)
  (s0 s1 s2 s3 s4 : DmaSems sig S_) {α : Type} {Q : α → sProp 𝕄} {q : ℕ}
    {kk : Unit → Prog (TpuEff nD τ sig (Elt F) Λ₀ (.scVector ((L 0).castLE hcore0) ((L 1).castLE hsub0))) α}
    {lp : Scf.Loop 32} {ok : lp.OK} (hlp : lp = k0_t1_loop)
    {body : Fin lp.trips → Unit → Prog (TpuEff nD τ sig (Elt F) Λ₀ (.scVector ((L 0).castLE hcore0) ((L 1).castLE hsub0))) Unit}
    (hb : HEq body (k0_t1_body L a2 h2 a3 h3 a4 h4 a5 h5 a6 h6 a7 h7 a8 h8 a9 h9 a10 h10 a11 h11 s0 s1 s2 s3 s4 (broadcast S16 p))) :
    full d L X a8 q ⊢ iprop(free (V d (cV L) (jV L)) a10 -∗ tables (V d (cV L) (jV L)) a5 a6 a7 t2 t1 b
      -∗ ((free (V d (cV L) (jV L)) a8 ∗ ready d L X (walk p t2 t1 b) a10 q ∗ tables (V d (cV L) (jV L)) a5 a6 a7 t2 t1 b)
        -∗ wp frame (wpE (defs₀ (F := F)) 𝒱₀ (V d (cV L) (jV L)) none) Set.univ (kk ⟨⟩) Q)
      -∗ wp frame (wpE (defs₀ (F := F)) 𝒱₀ (V d (cV L) (jV L)) none) Set.univ (Scf.Loop.for lp ok ⟨⟩ body >>= kk) Q) := by
  subst hlp
  obtain rfl := eq_of_heq hb
  unfold full free
  iintro ⟨%fi, %hi, Hi⟩ ⟨%g, Ho⟩ HT HK
  iapply (loop d L a2 h2 a3 h3 a4 h4 a5 h5 a6 h6 a7 h7 a8 h8 a9 h9 a10 h10 a11 h11 s0 s1 s2 s3 s4 p t2 t1 b fi g) $$ [Hi Ho HT]
  · isplitl [HT]
    · iexact HT
    isplitl [Hi]
    · iexact Hi
    iexact Ho
  unfold upTo
  iintro ⟨HT, Hi, ⟨%g', %hg, Ho⟩⟩
  iapply HK
  isplitl [Hi]
  · iexists fi; iexact Hi
  isplitl [Ho]
  · unfold ready
    iexists g'; isplitr
    · ipureintro; intro i j hij; exact (hg j (j 0).isLt).trans (congrArg _ (hi i j hij))
    · iexact Ho
  iexact HT

end Cert.Digi

end
-- ==== Proof.Table.lean ====
/-
  The three tables a tile looks edges up in. The padded edges are copied whole; the table for bit 4 holds at place `l`
  the edge at `l` joined with 3, the table for bit 2 the edge at `l` joined with 1.
-/
module

public import proofs.«01_k».proof.Proof.Steps

@[expose] public section

noncomputable section

namespace Cert.Digi

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## What the tables hold -/

/-- The edges under the places joined with `n`. -/
def tab (n : BitVec 32) (B : Vec F S16 .f32) : Vec F S16 .f32 := fun l => B (lane (BitVec.ofNat 32 (l 0).val ||| n))

theorem place_lt (l : S16.Idx) : (BitVec.ofNat 32 (l 0).val).toNat < 16 := by
  have h : (l 0).val < 16 := (l 0).isLt
  rw [BitVec.toNat_ofNat]; omega

/-- The lane numbers. -/
theorem iota_place (l : S16.Idx) : iota .scVector S16 32 [0] iota_S16_d0_w32_scVector l = BitVec.ofNat 32 (l 0).val :=
  congrArg (BitVec.ofNat 32) (show 0 * 16 + (l 0).val = (l 0).val by omega)

theorem places_three (l : S16.Idx) : k0_pay279 l = BitVec.ofNat 32 (l 0).val ||| 3#32 := congrArg (· ||| 3#32) (iota_place l)
theorem places_one (l : S16.Idx) : k0_pay281 l = BitVec.ofNat 32 (l 0).val ||| 1#32 := congrArg (· ||| 1#32) (iota_place l)

/-- The three lists of places are in range. -/
theorem chk_seven : k0_chk1 (broadcast S16 7#32) := by
  intro a l; obtain rfl : a = 0 := Subsingleton.elim _ _
  exact (by decide : (7#32 : BitVec 32).toNat < 16)

theorem chk_three : k0_chk2 k0_pay279 := by
  intro a l; obtain rfl : a = 0 := Subsingleton.elim _ _
  show (k0_pay279 l).toNat < 16
  rw [places_three]; exact or_lt (place_lt l) (by decide)

theorem chk_one : k0_chk3 k0_pay281 := by
  intro a l; obtain rfl : a = 0 := Subsingleton.elim _ _
  show (k0_pay281 l).toNat < 16
  rw [places_one]; exact or_lt (place_lt l) (by decide)

/-- A lookup at place 7 everywhere is edge 7 everywhere. -/
theorem look_seven (B : Vec F S16 .f32) (h : ∀ a x, ((![broadcast S16 7#32] : Fin 1 → IVec S16 32) a x).toNat < S16.size a) :
    loadIdx B ![broadcast S16 7#32] h = broadcast S16 (B (lane 7#32)) :=
  funext fun l => loadIdx_lane B _ h l

theorem look_three (B : Vec F S16 .f32) (h : ∀ a x, ((![k0_pay279] : Fin 1 → IVec S16 32) a x).toNat < S16.size a) :
    k0_pay280 (loadIdx B ![k0_pay279] h) = tab 3#32 B :=
  funext fun l => (cast_self _ l).trans ((loadIdx_lane B _ h l).trans (congrArg (fun c => B (lane c)) (places_three l)))

theorem look_one (B : Vec F S16 .f32) (h : ∀ a x, ((![k0_pay281] : Fin 1 → IVec S16 32) a x).toNat < S16.size a) :
    k0_pay282 (loadIdx B ![k0_pay281] h) = tab 1#32 B :=
  funext fun l => (cast_self _ l).trans ((loadIdx_lane B _ h l).trans (congrArg (fun c => B (lane c)) (places_one l)))

/-- The bin number of `x` among the edges `B`. -/
def binOf (B : Vec F S16 .f32) (x : Elt F .f32) : BitVec 32 := walk (B (lane 7#32)) (tab 3#32 B) (tab 1#32 B) B x

/-! ## Filling them -/

/-- A store of sixteen elements over a whole table. -/
theorem step_fill {c : Thread nD τ} {defs : Defs nD τ sig (Elt F) Λ₀} {α : Type} {Q : α → sProp 𝕄}
    {m : Memref sig c.2.kind .vmem S16 .f32} {f : Buf (Elt F) (m.view.loc c)}
    {inb : ∀ a, (![0] : Fin 1 → ℕ) a + S16.size a ≤ S16.size a} {w : S16.Idx → Elt F .f32}
    {hx : (m.access (Rect.unit (s := S16) ![0] S16.size inb)).Stores Finset.univ}
    {hm : (Finset.univ : Finset (Rect.unit (s := S16) ![0] S16.size inb).shape.Idx) = Finset.univ
      ∨ ∀ a, (Rect.unit (s := S16) ![0] S16.size inb).stride a = 1}
    {k : PUnit → Prog (TpuEff nD τ sig (Elt F) Λ₀ c.2) α} :
    (m.view.loc c ↦{fullShare} f)
      ⊢ iprop(((∃ g, ⌜m.view.read (Elt F) g = w⌝ ∗ m.view.loc c ↦{fullShare} g) -∗ wp frame (wpE defs 𝒱₀ c none) Set.univ (k ⟨⟩) Q)
        -∗ wp frame (wpE defs 𝒱₀ c none) Set.univ (.op (.store m (Rect.unit (s := S16) ![0] S16.size inb) w Finset.univ hx hm) k) Q) := by
  iintro H HK
  iapply (wp_store 𝒱₀ c none Set.univ (m := m) (r := Rect.unit (s := S16) ![0] S16.size inb) (Mk := Finset.univ) (S := Finset.univ) (f := f) (Finset.subset_univ _)) $$ [H]
  · iexact H
  iintro H
  iapply HK
  iexists _; isplitr
  rotate_left
  · iexact H
  ipureintro; funext j
  exact View.read_writes_cons_unit_of_mem m.view f inb w [] j j rfl fun a => by
    obtain rfl : a = 0 := Subsingleton.elim _ _
    exact (Nat.zero_add _).symm

variable (d : Dev nD) (L : grid0.Coords)

/-- The copy of the edges, issued, -/
theorem step_edges {defs : Defs nD τ sig (Elt F) Λ₀} {α : Type} {Q : α → sProp 𝕄} {s : DmaSem sig}
    {m : Memref sig .scVector .vmem S16 .f32} {hsrc : vV.view.WordExact} {hdst : m.view.WordExact}
    {hsem : DmaTarget.Typed (nD := nD) (sig := sig) (τ := τ) (p := .scVector (cV L) (jV L)) .hbm (.dma s) (.here m)}
    {k : PUnit → Prog (TpuEff nD τ sig (Elt F) Λ₀ (.scVector (cV L) (jV L))) α} (q : PosShare TreeShare) (B : Buf (Elt F) (vLoc d)) :
    free (V d (cV L) (jV L)) m ⊢ iprop(semVal (V d (cV L) (jV L), .dma s) 0 -∗ (vLoc d ↦{q} B)
      -∗ ((Transfers.Flight countersEmb (V d (cV L) (jV L)) (.dma s) (none : HIx 1) m.view.dmaCredit
            iprop((∃ f, ⌜m.view.read (Elt F) f = B⌝ ∗ m.view.loc (V d (cV L) (jV L)) ↦{fullShare} f) ∗ (vLoc d ↦{q} B)))
          -∗ wp frame (wpE defs 𝒱₀ (V d (cV L) (jV L)) none) Set.univ (k ⟨⟩) Q)
      -∗ wp frame (wpE defs 𝒱₀ (V d (cV L) (jV L)) none) Set.univ (.op (.enqueueDma vV (.here m) (.dma s) hsrc hdst hsem) k) Q) := by
  unfold free
  iintro ⟨%f, Hm⟩ Hs Hv HK
  iapply (Transfers.wp_dmaLocal countersEmb 𝒱₀ (V d (cV L) (jV L)) none (none : HIx 1) m.view.dmaCredit rfl
    (View.dmaCredit_pos _ (by decide)) (Sd := Finset.univ) (Finset.subset_univ _) (fs := B) (q := q) (fd := f)) $$ [Hv Hm Hs]
  · isplitl [Hv]
    · rw [(Memref.isWhole_whole main_v1_scv).set_eq_univ]; iexact Hv
    isplitl [Hm]
    · iexact Hm
    iexact Hs
  iintro HF
  iapply HK
  iapply (Transfers.Flight_mono countersEmb (V d (cV L) (jV L)) ?_) $$ HF
  rw [(Memref.isWhole_whole main_v1_scv).set_eq_univ]
  iintro ⟨Hm, Hv⟩
  isplitl [Hm]
  · iexists _; isplitr
    rotate_left
    · iexact Hm
    ipureintro; funext j
    rw [View.read_write_univ]; rfl
  · iexact Hv

end Cert.Digi

end
-- ==== Proof.Tile.lean ====
/-
  One tile's run: the tables, the first two chunks, fourteen rounds of two chunks with both fetches and both sends in
  flight, and the last two chunks. At each point of the run the four stacks of chunks say how far it is.
-/
module

public import proofs.«01_k».proof.Proof.Table

@[expose] public section

noncomputable section

namespace Cert.Digi

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-! ## A tile's scratch: the tables, the two input buffers, the two output buffers -/

abbrev bV : Memref sig .scVector .vmem S16 .f32 := Memref.whole cc0_scratch0
abbrev uV : Memref sig .scVector .vmem S16 .f32 := Memref.whole cc0_scratch1
abbrev tV : Memref sig .scVector .vmem S16 .f32 := Memref.whole cc0_scratch2
abbrev i0 : Memref sig .scVector .vmem S16384 .f32 := Memref.whole cc0_scratch3
abbrev i1 : Memref sig .scVector .vmem S16384 .f32 := Memref.whole cc0_scratch4
abbrev r0 : Memref sig .scVector .vmem S16384 .i32 := Memref.whole cc0_scratch5
abbrev r1 : Memref sig .scVector .vmem S16384 .i32 := Memref.whole cc0_scratch6

variable (d : Dev nD) (L : grid0.Coords) (X : Buf (Elt F) (xLoc d)) (B : Vec F S16 .f32)
  (O : CellTallies nD τ sig (HIx 1)) (W : Waits sig (HIx 1))

/-- The filled tables. -/
def looks : sProp 𝕄 := tables (V d (cV L) (jV L)) bV uV tV (tab 3#32 B) (tab 1#32 B) B

/-- The counter of a semaphore of the tile at zero. -/
abbrev idle (s : DmaSem sig) : sProp 𝕄 := semVal (V d (cV L) (jV L), .dma s) 0

/-- How far the tile is: chunks back from their fetches, fetches issued, chunks sent, sends issued. -/
def piles (a b c e : ℕ) : sProp 𝕄 :=
  iprop(done (xP d L X) a ∗ todo (xP d L X) b ∗ done (oP d L X (binOf B)) c ∗ todo (oI d L) e)

/-- Between two rounds, `m` chunks sent: two fetches and two sends are in flight. -/
def cruise (m : ℕ) : sProp 𝕄 :=
  iprop(looks d L B ∗ fetching d L X cc0_scratch7.sem i0 (nth L (m + 2)) ∗ fetching d L X cc0_scratch8.sem i1 (nth L (m + 3))
    ∗ sending d L X (binOf B) cc0_scratch9.sem r0 (nth L m) ∗ sending d L X (binOf B) cc0_scratch10.sem r1 (nth L (m + 1))
    ∗ piles d L X B (m + 2) (m + 4) m (m + 2) ∗ duty (V d (cV L) (jV L)) O W)

section Code

variable {α : Type} {q : ℕ}
  {kk : Unit → Prog (TpuEff nD τ sig (Elt F) Λ₀ (.scVector ((L 0).castLE hcore0) ((L 1).castLE hsub0))) α}
  {lp : Scf.Loop 32} {ok : lp.OK}
  {body : Fin lp.trips → Unit → Prog (TpuEff nD τ sig (Elt F) Λ₀ (.scVector ((L 0).castLE hcore0) ((L 1).castLE hsub0))) Unit}

/-- The vector loop over the first pair of buffers, -/
theorem code_A {Q : α → sProp 𝕄} (hlp : lp = k0_t1_loop)
    (hb : HEq body (k0_t1_body L xV (Memref.isWhole_whole _) vV (Memref.isWhole_whole _) oV (Memref.isWhole_whole _)
      bV (Memref.isWhole_whole _) uV (Memref.isWhole_whole _) tV (Memref.isWhole_whole _)
      i0 (Memref.isWhole_whole _) i1 (Memref.isWhole_whole _) r0 (Memref.isWhole_whole _) r1 (Memref.isWhole_whole _)
      cc0_scratch7 cc0_scratch8 cc0_scratch9 cc0_scratch10 cc0_scoped0 (broadcast S16 (B (lane 7#32))))) :
    full d L X i0 q ⊢ iprop(free (V d (cV L) (jV L)) r0 -∗ looks d L B
      -∗ ((free (V d (cV L) (jV L)) i0 ∗ ready d L X (binOf B) r0 q ∗ looks d L B)
        -∗ wp frame (wpE (defs₀ (F := F)) 𝒱₀ (V d (cV L) (jV L)) none) Set.univ (kk ⟨⟩) Q)
      -∗ wp frame (wpE (defs₀ (F := F)) 𝒱₀ (V d (cV L) (jV L)) none) Set.univ (Scf.Loop.for lp ok ⟨⟩ body >>= kk) Q) :=
  code_chunk d L X _ _ _ _ _ _ _ _ _ _ _ _ _ _ _ _ _ _ _ _ _ _ _ _ _ _ _ _ _ hlp hb

/-- and over the second. -/
theorem code_B {Q : α → sProp 𝕄} (hlp : lp = k0_t1_loop)
    (hb : HEq body (k0_t1_body L xV (Memref.isWhole_whole _) vV (Memref.isWhole_whole _) oV (Memref.isWhole_whole _)
      bV (Memref.isWhole_whole _) uV (Memref.isWhole_whole _) tV (Memref.isWhole_whole _)
      i1 (Memref.isWhole_whole _) i0 (Memref.isWhole_whole _) r1 (Memref.isWhole_whole _) r0 (Memref.isWhole_whole _)
      cc0_scratch7 cc0_scratch8 cc0_scratch9 cc0_scratch10 cc0_scoped0 (broadcast S16 (B (lane 7#32))))) :
    full d L X i1 q ⊢ iprop(free (V d (cV L) (jV L)) r1 -∗ looks d L B
      -∗ ((free (V d (cV L) (jV L)) i1 ∗ ready d L X (binOf B) r1 q ∗ looks d L B)
        -∗ wp frame (wpE (defs₀ (F := F)) 𝒱₀ (V d (cV L) (jV L)) none) Set.univ (kk ⟨⟩) Q)
      -∗ wp frame (wpE (defs₀ (F := F)) 𝒱₀ (V d (cV L) (jV L)) none) Set.univ (Scf.Loop.for lp ok ⟨⟩ body >>= kk) Q) :=
  code_chunk d L X _ _ _ _ _ _ _ _ _ _ _ _ _ _ _ _ _ _ _ _ _ _ _ _ _ _ _ _ _ hlp hb

end Code

set_option maxHeartbeats 1000000 in
/-- A round: the next two chunks are coded, sent, and the two after them fetched. -/
theorem round (v17 : BitVec 32) (k : Fin k0_t3_loop.trips) :
    cruise d L X B O W (2 * k.val)
      ⊢ wp frame (wpE (defs₀ (F := F)) 𝒱₀ (V d (cV L) (jV L)) none) Set.univ
          (k0_t3_body L xV (Memref.isWhole_whole _) vV (Memref.isWhole_whole _) oV (Memref.isWhole_whole _)
            bV (Memref.isWhole_whole _) uV (Memref.isWhole_whole _) tV (Memref.isWhole_whole _)
            i0 (Memref.isWhole_whole _) i1 (Memref.isWhole_whole _) r0 (Memref.isWhole_whole _) r1 (Memref.isWhole_whole _)
            cc0_scratch7 cc0_scratch8 cc0_scratch9 cc0_scratch10 cc0_scoped0 (broadcast S16 (B (lane 7#32))) v17 k ⟨⟩)
          fun _ => cruise d L X B O W (2 * (k.val + 1)) := by
  have hk : k.val < 14 := k.isLt
  unfold k0_t3_body
  rw [k0_part25_eq_skeleton]; unfold k0_part25_skel
  simp only [Prog.lift, Prog.bind_op, Prog.bind_ret, Prog.pure_eq_ret, bind_assoc]
  show _ ⊢ wp _ _ _ _ (fun _ => cruise d L X B O W (2 * k.val + 2))
  unfold cruise piles
  generalize hm : 2 * k.val = m
  iintro ⟨HT, HFA, HFB, HSA, HSB, ⟨Hdx, Htx, Hdo, Hto⟩, HO⟩
  iapply (landed d L X) $$ HFA Hdx HO
  iintro ⟨HA, Hdx, HsiA, HO⟩
  iapply (sent d L X (binOf B)) $$ HSA Hdo HO
  iintro ⟨HRA, Hdo, HsoA, HO⟩
  iapply (code_A d L X B rfl (heq_of_eq (body4_eq ..))) $$ HA HRA HT
  iintro ⟨HA, HRA, HT⟩
  iapply (out d L X (binOf B) (by omega) (Memref.isWhole_whole _) ((off_send L k 0).trans (by rw [← hm]; rfl))) $$ HRA HsoA Hto
  iintro ⟨HSA, Hto⟩
  iapply (next d L X (by omega) (Memref.isWhole_whole _) ((off_fetch L k 0).trans (by rw [← hm]; rfl))) $$ HA HsiA Htx
  iintro ⟨HFA, Htx⟩
  iapply (landed d L X) $$ HFB Hdx HO
  iintro ⟨HB, Hdx, HsiB, HO⟩
  iapply (sent d L X (binOf B)) $$ HSB Hdo HO
  iintro ⟨HRB, Hdo, HsoB, HO⟩
  iapply (code_B d L X B rfl (heq_of_eq (body5_eq ..))) $$ HB HRB HT
  iintro ⟨HB, HRB, HT⟩
  iapply (out d L X (binOf B) (by omega) (Memref.isWhole_whole _) ((off_send L k 1).trans (by rw [← hm]; rfl))) $$ HRB HsoB Hto
  iintro ⟨HSB, Hto⟩
  iapply (next d L X (by omega) (Memref.isWhole_whole _) ((off_fetch L k 1).trans (by rw [← hm]; rfl))) $$ HB HsiB Htx
  iintro ⟨HFB, Htx⟩
  iapply (le_wp_ret _ _)
  isplitl [HT]; · iexact HT
  isplitl [HFA]; · iexact HFA
  isplitl [HFB]; · iexact HFB
  isplitl [HSA]; · iexact HSA
  isplitl [HSB]; · iexact HSB
  isplitl [Hdx Htx Hdo Hto]
  · isplitl [Hdx]; · iexact Hdx
    isplitl [Htx]; · iexact Htx
    isplitl [Hdo]; · iexact Hdo
    iexact Hto
  iexact HO

/-! ## The start -/

theorem open_free {c : Thread nD τ} {sp : Space} {s : Shape} {e : EltTy} (m : Memref sig c.2.kind sp s e) :
    (free c m : sProp 𝕄) ⊢ iprop(∃ f, m.view.loc c ↦{fullShare} f) := by
  unfold free; exact Entails.rfl

/-- After the start: the tables are filled, the first chunk is coded and on its way out, the second on its way in. -/
def started : sProp 𝕄 :=
  iprop(looks d L B ∗ free (V d (cV L) (jV L)) i0 ∗ idle d L cc0_scratch7.sem ∗ fetching d L X cc0_scratch8.sem i1 (nth L 1)
    ∗ sending d L X (binOf B) cc0_scratch9.sem r0 (nth L 0) ∗ free (V d (cV L) (jV L)) r1 ∗ idle d L cc0_scratch10.sem
    ∗ piles d L X B 1 2 0 1 ∗ duty (V d (cV L) (jV L)) O W)

set_option maxHeartbeats 1000000 in
theorem start (q : PosShare TreeShare) :
    iprop((free (V d (cV L) (jV L)) bV ∗ free (V d (cV L) (jV L)) uV ∗ free (V d (cV L) (jV L)) tV
        ∗ free (V d (cV L) (jV L)) i0 ∗ free (V d (cV L) (jV L)) i1 ∗ free (V d (cV L) (jV L)) r0 ∗ free (V d (cV L) (jV L)) r1)
      ∗ (idle d L cc0_scratch7.sem ∗ idle d L cc0_scratch8.sem ∗ idle d L cc0_scratch9.sem ∗ idle d L cc0_scratch10.sem ∗ idle d L cc0_scoped0.sem)
      ∗ (vLoc d ↦{q} B) ∗ piles d L X B 0 0 0 0 ∗ duty (V d (cV L) (jV L)) O W)
      ⊢ wp frame (wpE (defs₀ (F := F)) 𝒱₀ (V d (cV L) (jV L)) none) Set.univ
          (k0_part38 L xV (Memref.isWhole_whole _) vV (Memref.isWhole_whole _) oV (Memref.isWhole_whole _)
            bV (Memref.isWhole_whole _) uV (Memref.isWhole_whole _) tV (Memref.isWhole_whole _)
            i0 (Memref.isWhole_whole _) i1 (Memref.isWhole_whole _) r0 (Memref.isWhole_whole _) r1 (Memref.isWhole_whole _)
            cc0_scratch7 cc0_scratch8 cc0_scratch9 cc0_scratch10 cc0_scoped0)
          fun r => iprop(⌜r.1 = broadcast S16 (B (lane 7#32))⌝ ∗ started d L X B O W ∗ (vLoc d ↦{q} B) ∗ idle d L cc0_scoped0.sem) := by
  rw [k0_part38_eq_skeleton]; unfold k0_part38_skel
  simp only [Prog.lift, Prog.bind_op, Prog.bind_ret, Prog.pure_eq_ret, SparseCore.vectorLoadIdx]
  unfold piles
  iintro ⟨⟨Hb, Hu, Ht, HA, HB, HRA, HRB⟩, ⟨HsiA, HsiB, HsoA, HsoB, Hsv⟩, Hv, ⟨Hdx, Htx, Hdo, Hto⟩, HO⟩
  iapply (step_edges d L q B) $$ Hb Hsv Hv
  iintro HF
  iapply (step_wait (c := V d (cV L) (jV L)) (O := O) (W := W) rfl) $$ [HF HO]
  · isplitl [HF]; · iexact HF
    iexact HO
  iintro ⟨⟨⟨%fb, %eb, Hb⟩, Hv⟩, Hsv, HO⟩
  ihave Hu := (open_free (c := V d (cV L) (jV L)) uV) $$ Hu
  ihave Ht := (open_free (c := V d (cV L) (jV L)) tV) $$ Ht
  icases Hu with ⟨%fu, Hu⟩
  icases Ht with ⟨%ft, Ht⟩
  iapply (wp_assume 𝒱₀ (V d (cV L) (jV L)) none Set.univ chk_seven)
  iapply (step_lookup (c := V d (cV L) (jV L)) (base := bV) eb) $$ Hb
  iintro Hb
  iapply (wp_assume 𝒱₀ (V d (cV L) (jV L)) none Set.univ chk_three)
  iapply (step_lookup (c := V d (cV L) (jV L)) (base := bV) eb) $$ Hb
  iintro Hb
  iapply (step_load (c := V d (cV L) (jV L)) (m := uV)) $$ Hu
  iintro Hu
  iapply (step_fill (c := V d (cV L) (jV L)) (m := uV)) $$ Hu
  iintro ⟨%fu', %eu, Hu⟩
  iapply (wp_assume 𝒱₀ (V d (cV L) (jV L)) none Set.univ chk_one)
  iapply (step_lookup (c := V d (cV L) (jV L)) (base := bV) eb) $$ Hb
  iintro Hb
  iapply (step_load (c := V d (cV L) (jV L)) (m := tV)) $$ Ht
  iintro Ht
  iapply (step_fill (c := V d (cV L) (jV L)) (m := tV)) $$ Ht
  iintro ⟨%ft', %et, Ht⟩
  rw [look_three] at eu
  rw [look_one] at et
  rw [look_seven]
  ihave HT : looks d L B $$ [Hb Hu Ht]
  · unfold looks tables
    iexists fb; iexists fu'; iexists ft'
    isplitr
    · ipureintro; exact ⟨eb, eu, et⟩
    isplitl [Hb]; · iexact Hb
    isplitl [Hu]; · iexact Hu
    iexact Ht
  iapply (next d L X (by decide) (Memref.isWhole_whole _) (off_head L 0 (by decide))) $$ HA HsiA Htx
  iintro ⟨HFA, Htx⟩
  iapply (next d L X (by decide) (Memref.isWhole_whole _) (off_head L 1 (by decide))) $$ HB HsiB Htx
  iintro ⟨HFB, Htx⟩
  iapply (landed d L X) $$ HFA Hdx HO
  iintro ⟨HA, Hdx, HsiA, HO⟩
  iapply (code_A d L X B rfl HEq.rfl) $$ HA HRA HT
  iintro ⟨HA, HRA, HT⟩
  iapply (out d L X (binOf B) (by decide) (Memref.isWhole_whole _) (off_head L 0 (by decide))) $$ HRA HsoA Hto
  iintro ⟨HSA, Hto⟩
  iapply (le_wp_ret _ _)
  isplitr
  · ipureintro; rfl
  isplitr [Hv Hsv]
  rotate_left
  · isplitl [Hv]; · iexact Hv
    iexact Hsv
  unfold started
  isplitl [HT]; · iexact HT
  isplitl [HA]; · iexact HA
  isplitl [HsiA]; · iexact HsiA
  isplitl [HFB]; · iexact HFB
  isplitl [HSA]; · iexact HSA
  isplitl [HRB]; · iexact HRB
  isplitl [HsoB]; · iexact HsoB
  isplitl [Hdx Htx Hdo Hto]
  · unfold piles
    isplitl [Hdx]; · iexact Hdx
    isplitl [Htx]; · iexact Htx
    isplitl [Hdo]; · iexact Hdo
    iexact Hto
  iexact HO

/-! ## The rounds -/

/-- After the rounds: thirty chunks are sent or on their way out, the last one is in. -/
def cruised : sProp 𝕄 :=
  iprop(looks d L B ∗ free (V d (cV L) (jV L)) i0 ∗ idle d L cc0_scratch7.sem ∗ full d L X i1 (nth L 31) ∗ idle d L cc0_scratch8.sem
    ∗ sending d L X (binOf B) cc0_scratch9.sem r0 (nth L 30) ∗ sending d L X (binOf B) cc0_scratch10.sem r1 (nth L 29)
    ∗ piles d L X B 32 32 29 31 ∗ duty (V d (cV L) (jV L)) O W)

set_option maxHeartbeats 1000000 in
theorem rounds (v17 : BitVec 32) :
    started d L X B O W
      ⊢ wp frame (wpE (defs₀ (F := F)) 𝒱₀ (V d (cV L) (jV L)) none) Set.univ
          (k0_part39 L xV (Memref.isWhole_whole _) vV (Memref.isWhole_whole _) oV (Memref.isWhole_whole _)
            bV (Memref.isWhole_whole _) uV (Memref.isWhole_whole _) tV (Memref.isWhole_whole _)
            i0 (Memref.isWhole_whole _) i1 (Memref.isWhole_whole _) r0 (Memref.isWhole_whole _) r1 (Memref.isWhole_whole _)
            cc0_scratch7 cc0_scratch8 cc0_scratch9 cc0_scratch10 cc0_scoped0 (broadcast S16 (B (lane 7#32))) v17)
          fun _ => cruised d L X B O W := by
  rw [k0_part39_eq_skeleton]; unfold k0_part39_skel
  simp only [Prog.lift, Prog.bind_op, Prog.bind_ret, Prog.pure_eq_ret]
  unfold started piles
  iintro ⟨HT, HA, HsiA, HFB, HSA, HRB, HsoB, ⟨Hdx, Htx, Hdo, Hto⟩, HO⟩
  iapply (next d L X (by decide) (Memref.isWhole_whole _) (off_head L 2 (by decide))) $$ HA HsiA Htx
  iintro ⟨HFA, Htx⟩
  iapply (landed d L X) $$ HFB Hdx HO
  iintro ⟨HB, Hdx, HsiB, HO⟩
  iapply (code_B d L X B rfl (heq_of_eq (body2_eq ..))) $$ HB HRB HT
  iintro ⟨HB, HRB, HT⟩
  iapply (out d L X (binOf B) (by decide) (Memref.isWhole_whole _) (off_head L 1 (by decide))) $$ HRB HsoB Hto
  iintro ⟨HSB, Hto⟩
  iapply (next d L X (by decide) (Memref.isWhole_whole _) (off_head L 3 (by decide))) $$ HB HsiB Htx
  iintro ⟨HFB, Htx⟩
  sl_for (fun (k : ℕ) (_ : Unit) => cruise d L X B O W (2 * k)) $$ [HT HFA HFB HSA HSB Hdx Htx Hdo Hto HO]
  · intro k acc
    exact round d L X B O W v17 k
  · unfold cruise
    isplitl [HT]; · iexact HT
    isplitl [HFA]; · iexact HFA
    isplitl [HFB]; · iexact HFB
    isplitl [HSA]; · iexact HSA
    isplitl [HSB]; · iexact HSB
    isplitl [Hdx Htx Hdo Hto]
    · unfold piles
      isplitl [Hdx]; · iexact Hdx
      isplitl [Htx]; · iexact Htx
      isplitl [Hdo]; · iexact Hdo
      iexact Hto
    iexact HO
  iintro %acc H
  ihave H := (Entails.of_eq (show cruise d L X B O W (2 * k0_t3_loop.trips) = cruise d L X B O W 28 from rfl)) $$ H
  unfold cruise piles
  icases H with ⟨HT, HFA, HFB, HSA, HSB, ⟨Hdx, Htx, Hdo, Hto⟩, HO⟩
  iapply (landed d L X) $$ HFA Hdx HO
  iintro ⟨HA, Hdx, HsiA, HO⟩
  iapply (sent d L X (binOf B)) $$ HSA Hdo HO
  iintro ⟨HRA, Hdo, HsoA, HO⟩
  iapply (code_A d L X B rfl (heq_of_eq (body6_eq ..))) $$ HA HRA HT
  iintro ⟨HA, HRA, HT⟩
  iapply (out d L X (binOf B) (by decide) (Memref.isWhole_whole _) (off_head L 30 (by decide))) $$ HRA HsoA Hto
  iintro ⟨HSA, Hto⟩
  iapply (landed d L X) $$ HFB Hdx HO
  iintro ⟨HB, Hdx, HsiB, HO⟩
  iapply (le_wp_ret _ _)
  unfold cruised
  isplitl [HT]; · iexact HT
  isplitl [HA]; · iexact HA
  isplitl [HsiA]; · iexact HsiA
  isplitl [HB]; · iexact HB
  isplitl [HsiB]; · iexact HsiB
  isplitl [HSA]; · iexact HSA
  isplitl [HSB]; · iexact HSB
  isplitl [Hdx Htx Hdo Hto]
  · unfold piles
    isplitl [Hdx]; · iexact Hdx
    isplitl [Htx]; · iexact Htx
    isplitl [Hdo]; · iexact Hdo
    iexact Hto
  iexact HO

/-! ## The whole run -/

set_option maxHeartbeats 1000000 in
/-- A tile's run: from its chunks of the input and of the result, a share of the edges and its scratch, it leaves every
    chunk of the result holding its elements' bin numbers, and hands the rest back. -/
theorem run (q : PosShare TreeShare) :
    iprop((free (V d (cV L) (jV L)) bV ∗ free (V d (cV L) (jV L)) uV ∗ free (V d (cV L) (jV L)) tV
        ∗ free (V d (cV L) (jV L)) i0 ∗ free (V d (cV L) (jV L)) i1 ∗ free (V d (cV L) (jV L)) r0 ∗ free (V d (cV L) (jV L)) r1)
      ∗ (idle d L cc0_scratch7.sem ∗ idle d L cc0_scratch8.sem ∗ idle d L cc0_scratch9.sem ∗ idle d L cc0_scratch10.sem ∗ idle d L cc0_scoped0.sem)
      ∗ (vLoc d ↦{q} B) ∗ (done (xP d L X) 32 ∗ done (oI d L) 32) ∗ duty (V d (cV L) (jV L)) O W)
      ⊢ wp frame (wpE (defs₀ (F := F)) 𝒱₀ (V d (cV L) (jV L)) none) Set.univ
          (cc0_sc_digitize L xV (Memref.isWhole_whole _) vV (Memref.isWhole_whole _) oV (Memref.isWhole_whole _)
            bV (Memref.isWhole_whole _) uV (Memref.isWhole_whole _) tV (Memref.isWhole_whole _)
            i0 (Memref.isWhole_whole _) i1 (Memref.isWhole_whole _) r0 (Memref.isWhole_whole _) r1 (Memref.isWhole_whole _)
            cc0_scratch7 cc0_scratch8 cc0_scratch9 cc0_scratch10 cc0_scoped0)
          fun _ => iprop((free (V d (cV L) (jV L)) bV ∗ free (V d (cV L) (jV L)) uV ∗ free (V d (cV L) (jV L)) tV
              ∗ free (V d (cV L) (jV L)) i0 ∗ free (V d (cV L) (jV L)) i1 ∗ free (V d (cV L) (jV L)) r0 ∗ free (V d (cV L) (jV L)) r1)
            ∗ (idle d L cc0_scratch7.sem ∗ idle d L cc0_scratch8.sem ∗ idle d L cc0_scratch9.sem ∗ idle d L cc0_scratch10.sem ∗ idle d L cc0_scoped0.sem)
            ∗ (vLoc d ↦{q} B) ∗ (done (xP d L X) 32 ∗ done (oP d L X (binOf B)) 32) ∗ duty (V d (cV L) (jV L)) O W) := by
  rw [cc0_sc_digitize_eq_skeleton]; unfold cc0_sc_digitize_skel
  rw [wp_bind]
  iintro ⟨Hbufs, Hsems, Hv, ⟨Hx, Ho⟩, HO⟩
  ihave H := (start d L X B O W q) $$ [Hbufs Hsems Hv Hx Ho HO]
  · unfold piles
    rw [done_zero, done_zero, todo_zero, todo_zero]
    isplitl [Hbufs]; · iexact Hbufs
    isplitl [Hsems]; · iexact Hsems
    isplitl [Hv]; · iexact Hv
    isplitl [Hx Ho]
    · isplitr; · iempintro
      isplitl [Hx]; · iexact Hx
      isplitr; · iempintro
      iexact Ho
    iexact HO
  iapply (wp_wand frame _ _) $$ H
  iintro %r ⟨%ev, HS, Hv, Hsv⟩
  obtain ⟨v3, v17⟩ := r
  dsimp only at ev ⊢
  subst ev
  rw [wp_bind]
  ihave HS := (rounds d L X B O W v17) $$ HS
  iapply (wp_wand frame _ _) $$ HS
  iintro %c5 H
  simp only [Prog.lift, Prog.bind_op, Prog.bind_ret, Prog.pure_eq_ret]
  unfold cruised piles
  icases H with ⟨HT, HA, HsiA, HB, HsiB, HSA, HSB, ⟨Hdx, Htx, Hdo, Hto⟩, HO⟩
  iapply (sent d L X (binOf B)) $$ HSB Hdo HO
  iintro ⟨HRB, Hdo, HsoB, HO⟩
  iapply (code_B d L X B rfl (heq_of_eq (body7_eq ..))) $$ HB HRB HT
  iintro ⟨HB, HRB, HT⟩
  iapply (out d L X (binOf B) (by decide) (Memref.isWhole_whole _) (off_head L 31 (by decide))) $$ HRB HsoB Hto
  iintro ⟨HSB, Hto⟩
  iapply (sent d L X (binOf B)) $$ HSA Hdo HO
  iintro ⟨HRA, Hdo, HsoA, HO⟩
  iapply (sent d L X (binOf B)) $$ HSB Hdo HO
  iintro ⟨HRB, Hdo, HsoB, HO⟩
  iapply (le_wp_ret _ _)
  unfold looks tables
  icases HT with ⟨%f5, %f6, %f7, -, H5, H6, H7⟩
  isplitl [H5 H6 H7 HA HB HRA HRB]
  · isplitl [H5]; · unfold free; iexists f5; iexact H5
    isplitl [H6]; · unfold free; iexists f6; iexact H6
    isplitl [H7]; · unfold free; iexists f7; iexact H7
    isplitl [HA]; · iexact HA
    isplitl [HB]; · iexact HB
    isplitl [HRA]; · iexact HRA
    iexact HRB
  isplitl [HsiA HsiB HsoA HsoB Hsv]
  · isplitl [HsiA]; · iexact HsiA
    isplitl [HsiB]; · iexact HsiB
    isplitl [HsoA]; · iexact HsoA
    isplitl [HsoB]; · iexact HsoB
    iexact Hsv
  isplitl [Hv]; · iexact Hv
  isplitl [Hdx Hdo]
  · isplitl [Hdx]; · iexact Hdx
    iexact Hdo
  iexact HO

end Cert.Digi

end
-- ==== Proof.Launch.lean ====
/-
  The launch's side of a tile: its own scratch and semaphores taken out of what the launch hands it, what it is given and
  gives back, and the obligations of the call: every tile runs, and a SparseCore's hand is its sixteen tiles' hands.
-/
module

public import proofs.«01_k».proof.Proof.Tile

@[expose] public section

noncomputable section

namespace Cert.Digi

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## A tile's own memory and semaphores -/

section Own

variable (d : Dev nD) (L : grid0.Coords)

/-- The scratch buffers the tile's text names. -/
abbrev scratch : Finset (Ref sig .scVector) :=
  {cc0_scratch0, cc0_scratch1, cc0_scratch2, cc0_scratch3, cc0_scratch4, cc0_scratch5, cc0_scratch6}

/-- The semaphores it names. -/
abbrev sems : Finset (DmaSem sig) :=
  {cc0_scratch7.sem, cc0_scratch8.sem, cc0_scratch9.sem, cc0_scratch10.sem, cc0_scoped0.sem}

/-- Their places on the device. -/
abbrev scratchAt : Finset (DevRef τ sig) := scratch.image (Proc.scVector (cV L) (jV L)).devRef
abbrev semsAt : Finset (GSem nD τ sig) := sems.image fun s => (V d (cV L) (jV L), SemLoc.dma s)

omit [FloatOps F] in
theorem each_scratch (Φ : Ref sig .scVector → sProp 𝕄) :
    bigSep scratch Φ = iprop(Φ cc0_scratch0 ∗ Φ cc0_scratch1 ∗ Φ cc0_scratch2 ∗ Φ cc0_scratch3 ∗ Φ cc0_scratch4 ∗ Φ cc0_scratch5 ∗ Φ cc0_scratch6) := by
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
/-- What a tile owns of memory is its scratch, and the rest. -/
theorem own_scratch :
    (ownBufs (V d (cV L) (jV L)) : sProp 𝕄)
      = iprop((free (V d (cV L) (jV L)) bV ∗ free (V d (cV L) (jV L)) uV ∗ free (V d (cV L) (jV L)) tV
          ∗ free (V d (cV L) (jV L)) i0 ∗ free (V d (cV L) (jV L)) i1 ∗ free (V d (cV L) (jV L)) r0 ∗ free (V d (cV L) (jV L)) r1)
        ∗ bigSep (ownRefs (τ := τ) (.scVector (cV L) (jV L)) \ scratchAt L) fun b => iprop(∃ f, ((d, b) : Loc nD τ sig) ↦{fullShare} f)) := by
  have sub : scratchAt L ⊆ ownRefs (τ := τ) (.scVector (cV L) (jV L)) := by
    intro b hb
    obtain ⟨r, hr, rfl⟩ := Finset.mem_image.mp hb
    refine mem_ownRefs_of_owner ?_
    simp only [scratch, Finset.mem_insert, Finset.mem_singleton] at hr
    rcases hr with rfl | rfl | rfl | rfl | rfl | rfl | rfl <;> rfl
  unfold SparseCore.Cfg.ownBufs
  rw [bigSep_sdiff_split sub, SparseCore.bigSep_image_of_injOn (Proc.devRef_injective _).injOn]
  exact congrArg (fun Q : sProp 𝕄 => iprop(Q ∗ _)) (each_scratch _)

omit [FloatOps F] in
/-- What it owns of semaphores is the five it names, at rest, and the rest. -/
theorem own_sems :
    (ownSems0 (V d (cV L) (jV L)) : sProp 𝕄)
      = iprop((idle d L cc0_scratch7.sem ∗ idle d L cc0_scratch8.sem ∗ idle d L cc0_scratch9.sem ∗ idle d L cc0_scratch10.sem ∗ idle d L cc0_scoped0.sem)
        ∗ bigSep (ownCells (V d (cV L) (jV L)) \ semsAt d L) fun g => semVal g 0) := by
  have sub : semsAt d L ⊆ ownCells (V d (cV L) (jV L)) := by
    intro g hg
    obtain ⟨s, hs, rfl⟩ := Finset.mem_image.mp hg
    refine mem_ownCells.mpr ⟨rfl, ?_⟩
    show (SemLoc.dma s : SemLoc sig).isScoped .scVector = true
    exact (show ∀ s ∈ sems, (SemLoc.dma s : SemLoc sig).isScoped .scVector = true by decide) s hs
  unfold SparseCore.Cfg.ownSems0
  rw [bigSep_sdiff_split sub, SparseCore.bigSep_image_of_injOn (f := fun s : DmaSem sig => ((V d (cV L) (jV L), SemLoc.dma s) : GSem nD τ sig))
      (fun a _ b _ e => SemLoc.dma.inj (Prod.mk.inj e).2),
    SparseCore.bigSep_insert' (by decide), SparseCore.bigSep_insert' (by decide), SparseCore.bigSep_insert' (by decide),
    SparseCore.bigSep_insert' (by decide), bigSep_singleton]
  rfl

end Own

/-! ## What a tile is given, and gives back -/

section Pay

variable (d : Dev nD) (L : grid0.Coords) (X : Buf (Elt F) (xLoc d)) (B : Vec F S16 .f32)

/-- The share of the edges tile `L` reads: every tile reads all of them. -/
def part : PosShare TreeShare := Transfers.shareTokN (Transfers.shareTokN fullShare (L 0).val) (L 1).val

/-- Its share of the edges, its chunks of the input, and its chunks of the result at any contents; -/
def given : sProp 𝕄 := iprop((vLoc d ↦{part L} B) ∗ (bigSep (Finset.range 32) (xP d L X) ∗ bigSep (Finset.range 32) (oI (F := F) d L)))

/-- and the same with the codes in the result. -/
def back : sProp 𝕄 := iprop((vLoc d ↦{part L} B) ∗ (bigSep (Finset.range 32) (xP d L X) ∗ bigSep (Finset.range 32) (oP d L X (binOf B))))

instance storable_given : BI.Storable (upEmb : UEmb _ 𝕄) (given d L X B) := by
  unfold given xP oI; infer_instance

instance storable_back : BI.Storable (upEmb : UEmb _ 𝕄) (back d L X B) := by
  unfold back xP oP; infer_instance

/-- The whole task of a tile, as the launch states it. -/
theorem task (hF : (K (F := F)).Facts) (O : CellTallies nD τ sig (HIx 1)) (W : Waits sig (HIx 1)) (hO : ∀ g, O g none = 0) :
    iprop(levAts (K (F := F)).L (K (F := F)).lev ∗ emp ∗ given d L X B
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_sc_digitize L xV (Memref.isWhole_whole _) vV (Memref.isWhole_whole _) oV (Memref.isWhole_whole _)
            bV (Memref.isWhole_whole _) uV (Memref.isWhole_whole _) tV (Memref.isWhole_whole _)
            i0 (Memref.isWhole_whole _) i1 (Memref.isWhole_whole _) r0 (Memref.isWhole_whole _) r1 (Memref.isWhole_whole _)
            cc0_scratch7 cc0_scratch8 cc0_scratch9 cc0_scratch10 cc0_scoped0)
          fun _ => iprop(back d L X B ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), own_sems, own_scratch]
  unfold given back
  iintro ⟨#Hlv, -, ⟨Hv, Hxo⟩, ⟨Hbufs, Hb'⟩, ⟨Hsems, Hs'⟩, HO⟩
  ihave HM := ((K (F := F)).mayWaits_none hO) $$ Hlv
  ihave H := (run d L X B O W (part L)) $$ [Hv Hxo Hbufs Hsems HO HM]
  · isplitl [Hbufs]; · iexact Hbufs
    isplitl [Hsems]; · iexact Hsems
    isplitl [Hv]; · iexact Hv
    isplitl [Hxo]; · iexact Hxo
    unfold duty
    isplitl [HM]; · iexact HM
    iexists W; isplitr
    · ipureintro; exact fun p hp => .inl hp
    · iexact HO
  iapply (wp_wand frame _ _) $$ H
  iintro %r ⟨Hbufs, Hsems, Hv, Hxo, HO⟩
  isplitl [Hv Hxo]
  · isplitl [Hv]; · iexact Hv
    iexact Hxo
  isplitl [Hbufs Hb']
  · isplitl [Hbufs]; · iexact Hbufs
    iexact Hb'
  isplitl [Hsems Hs']
  · isplitl [Hsems]; · iexact Hsems
    iexact Hs'
  unfold duty
  icases HO with ⟨-, %W', %hW, HO⟩
  iexists W'; isplitr
  · ipureintro; exact fun p hp => (hW p hp).imp_right Or.inl
  · iexact HO

end Pay

/-! ## The call -/

/-- The grid point of SparseCore `c`'s tile `i`. -/
def point (c : Fin (grid0.bound 0)) (i : Fin (grid0.bound 1)) : grid0.Coords :=
  fun | 0 => c | 1 => i | ⟨_ + 2, h⟩ => absurd h (Nat.not_lt.2 (Nat.le_add_left _ _))

theorem cores_zero : (K (F := F)).nCore 0 = grid0.bound 0 := rfl
theorem tiles_zero : (K (F := F)).nSub 0 = grid0.bound 1 := rfl

/-- Every tile of SparseCore `c` has its `G`. -/
def hand (G : grid0.Coords → sProp 𝕄) (c : Fin (grid0.bound 0)) : sProp 𝕄 :=
  bigSep Finset.univ fun i : Fin (grid0.bound 1) => G (point c i)

instance storable_hand (G : grid0.Coords → sProp 𝕄) [∀ L, BI.Storable (upEmb : UEmb _ 𝕄) (G L)] (c : Fin (grid0.bound 0)) :
    BI.Storable (upEmb : UEmb _ 𝕄) (hand G c) := by
  unfold hand; infer_instance

theorem tiles_hand (G : grid0.Coords → sProp 𝕄) (c : Fin (grid0.bound 0)) :
    (bigSep Finset.univ fun i : Fin ((K (F := F)).nSub 0) => G (point c (Fin.cast tiles_zero i))) = hand G c := rfl

variable (X : ∀ d : Dev nD, Buf (Elt F) (xLoc d)) (B : Dev nD → Vec F S16 .f32)

/-- A SparseCore is handed what its sixteen tiles are handed, and hands back what they give. -/
def P : (K (F := F)).Pay (nD := nD) (Val := Elt F) (Name := ℕ) (U := UU) where
  st := fun q d c => match q with | 0 => hand (fun L => given d L (X d) (B d)) (Fin.cast cores_zero c)
  dn := fun q d c => match q with | 0 => hand (fun L => back d L (X d) (B d)) (Fin.cast cores_zero c)
  go := fun q d c i => match q with | 0 => given d (point (Fin.cast cores_zero c) (Fin.cast tiles_zero i)) (X d) (B d)
  td := fun q d c i => match q with | 0 => back d (point (Fin.cast cores_zero c) (Fin.cast tiles_zero i)) (X d) (B d)
  x := fun _ _ => iprop(emp)

instance storable_P : (P X B).IsStorable where
  st q d c := match q with | 0 => storable_hand (fun L => given d L (X d) (B d)) (Fin.cast cores_zero c)
  dn q d c := match q with | 0 => storable_hand (fun L => back d L (X d) (B d)) (Fin.cast cores_zero c)
  go q d c i := match q with | 0 => storable_given d (point (Fin.cast cores_zero c) (Fin.cast tiles_zero i)) (X d) (B d)
  td q d c i := match q with | 0 => storable_back d (point (Fin.cast cores_zero c) (Fin.cast tiles_zero i)) (X d) (B d)

theorem defs₀_tile (c : Fin τ.nSC) (i : Fin τ.nSub) :
    defs₀ (F := F) (.scVector c i) 0 ()
      = SparseCore.onTile hcore0 hsub0 (fun c i => cc0_sc_digitize (point c i) xV (Memref.isWhole_whole _) vV (Memref.isWhole_whole _) oV (Memref.isWhole_whole _)
            bV (Memref.isWhole_whole _) uV (Memref.isWhole_whole _) tV (Memref.isWhole_whole _)
            i0 (Memref.isWhole_whole _) i1 (Memref.isWhole_whole _) r0 (Memref.isWhole_whole _) r1 (Memref.isWhole_whole _)
            cc0_scratch7 cc0_scratch8 cc0_scratch9 cc0_scratch10 cc0_scoped0) ⟨⟩ c i := rfl

/-- Every tile of the call runs. -/
theorem tiles (hF : (K (F := F)).Facts) : (K (F := F)).TileObl (D (F := F)) 𝒱 (P X B) v₀ 0 := by
  intro d c i O W hO _ _
  simp only [show (P X B).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact task d (point ⟨_, hc.1⟩ ⟨_, hc.2⟩) (X d) (B d) hF O W hO

/-- What a SparseCore is handed is its tiles' hands, and what they give is what it hands back. -/
theorem shares_out : (K (F := F)).VecSplit' (P X B) 0 := by
  intro d c
  show hand (fun L => given d L (X d) (B d)) (Fin.cast cores_zero c) ⊢ |={Set.univ}=> iprop(
    (bigSep Finset.univ fun i : Fin ((K (F := F)).nSub 0) => given d (point (Fin.cast cores_zero c) (Fin.cast tiles_zero i)) (X d) (B d))
    ∗ ((bigSep Finset.univ fun i : Fin ((K (F := F)).nSub 0) => back d (point (Fin.cast cores_zero c) (Fin.cast tiles_zero i)) (X d) (B d))
      -∗ hand (fun L => back d L (X d) (B d)) (Fin.cast cores_zero c)))
  rw [tiles_hand (fun L => given d L (X d) (B d)), tiles_hand (fun L => back d L (X d) (B d))]
  iintro H
  imodintro
  isplitl [H]; · iexact H
  iintro H; iexact H

end Cert.Digi
-- ==== Proof.Main.lean ====
/-
  The host program around the call: three operations pad the edges with infinities, the input and the result are cut into
  their 1024 chunks and dealt to the tiles, and what comes back is put together. The run of the whole program ends with
  both arguments as they were and, at every place of the result, the code of the input there.
-/
module

public import proofs.«01_k».proof.Proof.Launch

@[expose] public section

noncomputable section

namespace Cert.Digi

open Cert.KernelIdeal Cert.KernelIdeal.Gen
open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Every tile of the device -/

/-- Every tile of every SparseCore has its `G`. -/
def every (G : grid0.Coords → sProp 𝕄) : sProp 𝕄 := bigSep Finset.univ fun c : Fin (grid0.bound 0) => hand G c

omit [FloatOps F] in
theorem every_sep (G H : grid0.Coords → sProp 𝕄) : every (fun L => iprop(G L ∗ H L)) = iprop(every G ∗ every H) := by
  unfold every hand
  rw [← bigSep_sep']
  exact bigSep_congr fun c _ => bigSep_sep' _ _ _

omit [FloatOps F] in
theorem every_mono {G H : grid0.Coords → sProp 𝕄} (h : ∀ L, G L ⊢ H L) : every G ⊢ every H :=
  bigSep_mono fun _ _ => bigSep_mono fun _ _ => h _

theorem cores_every (G : grid0.Coords → sProp 𝕄) :
    (bigSep Finset.univ fun c : Fin ((K (F := F)).nCore 0) => hand G (Fin.cast cores_zero c)) = every G := rfl

/-! ## Cutting an array into the tiles' chunks -/

/-- The chunks, by SparseCore, tile and place. -/
abbrev places : Finset (Fin (grid0.bound 0) × (Fin (grid0.bound 1) × ℕ)) := Finset.univ ×ˢ (Finset.univ ×ˢ Finset.range 32)

/-- The chunk at a place. -/
abbrev chunkAt (t : Fin (grid0.bound 0) × (Fin (grid0.bound 1) × ℕ)) : Finset S16777216.Idx := chunk (nth (point t.1 t.2.1) t.2.2)

theorem nth_point (c : Fin (grid0.bound 0)) (i : Fin (grid0.bound 1)) (n : ℕ) : nth (point c i) n = 32 * (2 * i.val + c.val) + n := rfl

theorem chunks_apart : ∀ t ∈ places, ∀ t' ∈ places, t ≠ t' → Disjoint (chunkAt t) (chunkAt t') := by
  rintro ⟨c, i, n⟩ ht ⟨c', i', n'⟩ ht' hne
  have hn : n < 32 := Finset.mem_range.mp (Finset.mem_product.mp (Finset.mem_product.mp ht).2).2
  have hn' : n' < 32 := Finset.mem_range.mp (Finset.mem_product.mp (Finset.mem_product.mp ht').2).2
  have hc : c.val < 2 := c.isLt
  have hc' : c'.val < 2 := c'.isLt
  refine Finset.disjoint_left.mpr fun j h h' => hne ?_
  have e : nth (point c i) n = nth (point c' i') n' := (Finset.mem_filter.mp h).2.symm.trans (Finset.mem_filter.mp h').2
  rw [nth_point, nth_point] at e
  have e1 : c = c' := Fin.ext (by omega)
  have e2 : i = i' := Fin.ext (by omega)
  have e3 : n = n' := by omega
  rw [e1, e2, e3]

theorem place_of (q : ℕ) (h : q < 1024) : ∃ t ∈ places, nth (point t.1 t.2.1) t.2.2 = q := by
  have h0 : q / 32 % 2 < 2 := Nat.mod_lt _ (by omega)
  have h1 : q / 64 < 16 := by omega
  refine ⟨(⟨q / 32 % 2, h0⟩, ⟨q / 64, h1⟩, q % 32), ?_, ?_⟩
  · exact Finset.mem_product.mpr ⟨Finset.mem_univ _, Finset.mem_product.mpr ⟨Finset.mem_univ _, Finset.mem_range.mpr (Nat.mod_lt _ (by omega))⟩⟩
  · rw [nth_point]
    show 32 * (2 * (q / 64) + q / 32 % 2) + q % 32 = q
    omega

theorem chunks_all : places.biUnion chunkAt = Finset.univ := by
  refine Finset.eq_univ_iff_forall.mpr fun j => ?_
  have hj : (j 0).val < 16777216 := (j 0).isLt
  have hq : (j 0).val / 16384 < 1024 := by omega
  generalize e : (j 0).val / 16384 = q at hq
  have h := place_of q hq
  rw [Finset.mem_biUnion]
  exact h.elim fun t ht => ⟨t, ht.1, Finset.mem_filter.mpr ⟨Finset.mem_univ _, e.trans ht.2.symm⟩⟩

omit [FloatOps F] in
/-- What the chunks have, by place, is what the tiles have. -/
theorem by_tile (G : ℕ → sProp 𝕄) :
    (bigSep places fun t => G (nth (point t.1 t.2.1) t.2.2)) = every fun L => bigSep (Finset.range 32) fun n => G (nth L n) := by
  rw [SparseCore.bigSep_product]
  unfold every hand
  exact bigSep_congr fun c _ => SparseCore.bigSep_product _ _ _

variable (d : Dev nD)

omit [FloatOps F] in
/-- The input is its chunks, in the tiles' hands, -/
theorem cut_x (X : Buf (Elt F) (xLoc d)) :
    (xLoc d ↦{fullShare} X : sProp 𝕄) = every fun L => bigSep (Finset.range 32) (xP d L X) := by
  refine Eq.trans ?_ (by_tile fun q => xLoc d ↦[chunk q]{fullShare} X)
  rw [← pointsTo_biUnion (ℓ := xLoc d) places chunkAt chunks_apart]
  exact congrArg (fun I : Finset (Idx (xLoc d)) => (xLoc d ↦[I]{fullShare} X : sProp 𝕄)) chunks_all.symm

omit [FloatOps F] in
/-- and so is the result. -/
theorem cut_o (f : Buf (Elt F) (oLoc d)) :
    (oLoc d ↦{fullShare} f : sProp 𝕄) = every fun L => bigSep (Finset.range 32) fun n => oLoc d ↦[chunk (nth L n)]{fullShare} f := by
  refine Eq.trans ?_ (by_tile fun q => oLoc d ↦[chunk q]{fullShare} f)
  rw [← pointsTo_biUnion (ℓ := oLoc d) places chunkAt chunks_apart]
  exact congrArg (fun I : Finset (Idx (oLoc d)) => (oLoc d ↦[I]{fullShare} f : sProp 𝕄)) chunks_all.symm

omit [FloatOps F] in
theorem any_o (L : grid0.Coords) (n : ℕ) (f : Buf (Elt F) (oLoc d)) : (oLoc d ↦[chunk (nth L n)]{fullShare} f : sProp 𝕄) ⊢ oI (F := F) d L n := by
  unfold oI
  iintro H
  iexists f; iexact H

omit [FloatOps F] in
theorem cut_o' (f : Buf (Elt F) (oLoc d)) :
    (oLoc d ↦{fullShare} f : sProp 𝕄) ⊢ every fun L => bigSep (Finset.range 32) (oI (F := F) d L) := by
  rw [cut_o]
  exact every_mono fun L => bigSep_mono fun n _ => any_o d L n f

omit [FloatOps F] in
/-- The edges are shared out: to each SparseCore a share, and of it to each tile one. -/
theorem deal_v (B : Buf (Elt F) (vLoc d)) : (vLoc d ↦{fullShare} B : sProp 𝕄) ⊢ every fun L => vLoc d ↦{part L} B :=
  (Transfers.pointsTo_toks_split fullShare (grid0.bound 0)).trans (sep_elim_right.trans
    (bigSep_mono fun c _ => (Transfers.pointsTo_toks_split _ (grid0.bound 1)).trans sep_elim_right))

/-- What the call is handed, -/
theorem given_every (X : Buf (Elt F) (xLoc d)) (B : Vec F S16 .f32) (f : Buf (Elt F) (oLoc d)) :
    iprop((vLoc d ↦{fullShare} B) ∗ (xLoc d ↦{fullShare} X) ∗ oLoc d ↦{fullShare} f) ⊢ every fun L => given d L X B := by
  unfold given
  rw [every_sep, every_sep, cut_x]
  iintro ⟨Hv, Hx, Ho⟩
  isplitl [Hv]; · iapply (deal_v d B); iexact Hv
  isplitl [Hx]; · iexact Hx
  iapply (cut_o' d f); iexact Ho

/-- and what it hands back. -/
theorem back_every (X : Buf (Elt F) (xLoc d)) (B : Vec F S16 .f32) :
    (every fun L => back d L X B) ⊢ iprop((xLoc d ↦{fullShare} X) ∗ oLoc d ↦{fullShare} coded d X (binOf B)) := by
  unfold back
  rw [every_sep, every_sep, cut_x, cut_o]
  iintro ⟨-, Hx, Ho⟩
  isplitl [Hx]; · iexact Hx
  iexact Ho

/-! ## The host operations -/

variable (m : (ℓ : Loc nD τ sig) → Buf (Elt F) ℓ)

abbrev bLoc (d : Dev nD) : Loc nD τ sig := (SparseCore.T d).loc main_arg1

abbrev ref (b : Ref sig .tc) : DevRef τ sig := Proc.devRef .tc b

/-- The TensorCore's arrays. -/
abbrev arrays : Finset (DevRef τ sig) := {ref main_arg0, ref main_arg1, ref main_cst, ref main_v0, ref main_v1, ref main_v2}

abbrev opInf : HloOp τ sig (Elt F) := StableHlo.nullary main_cst (constant S_ .f32 0x7F800000#32)
abbrev opFill : HloOp τ sig (Elt F) :=
  StableHlo.unary main_cst main_v0 (broadcastInDim S7 ![] bcast_S_S7 : (⟨S_, .f32⟩ : BufTy).Contents (Elt F) → (⟨S7, .f32⟩ : BufTy).Contents (Elt F))
abbrev opPad : HloOp τ sig (Elt F) :=
  StableHlo.binary main_arg1 main_v0 main_v1 ((fun a b => concatenate S16 0 [⟨S9, a⟩, ⟨S7, b⟩] concatenates_S9_S7_S16_d0) :
    (⟨S9, .f32⟩ : BufTy).Contents (Elt F) → (⟨S7, .f32⟩ : BufTy).Contents (Elt F) → (⟨S16, .f32⟩ : BufTy).Contents (Elt F))

/-- The arrays' contents at the launch, and after the three operations. -/
def before (d : Dev nD) : Valuation τ sig (Elt F) := fun b => m (d, b)
def padded (d : Dev nD) : Valuation τ sig (Elt F) := opPad.result (opFill.result (opInf.result (before m d)))

/-- The sixteen edges: the nine given, then infinities. -/
def edges (b : Vec F S9 .f32) : Vec F S16 .f32 :=
  concatenate S16 0 [⟨S9, b⟩, ⟨S7, broadcastInDim S7 ![] bcast_S_S7 (constant S_ .f32 0x7F800000#32)⟩] concatenates_S9_S7_S16_d0

theorem padded_edges : padded m d (ref main_v1) = edges (m (bLoc d)) := by
  unfold padded
  rw [StableHlo.binary_result', StableHlo.unary_result', StableHlo.nullary_result',
    opFill.result_of_not_mem _ (b := ref main_arg1) (show ref main_arg1 ∉ ({ref main_v0} : Finset (DevRef τ sig)) by decide),
    opInf.result_of_not_mem _ (b := ref main_arg1) (show ref main_arg1 ∉ ({ref main_cst} : Finset (DevRef τ sig)) by decide)]
  rfl

theorem padded_other {r : Ref sig .tc} (h1 : ref r ∉ ({ref main_v1} : Finset (DevRef τ sig))) (h0 : ref r ∉ ({ref main_v0} : Finset (DevRef τ sig)))
    (hc : ref r ∉ ({ref main_cst} : Finset (DevRef τ sig))) : padded m d (ref r) = m ((SparseCore.T d).loc r) := by
  unfold padded
  rw [opPad.result_of_not_mem _ (b := ref r) h1, opFill.result_of_not_mem _ (b := ref r) h0, opInf.result_of_not_mem _ (b := ref r) hc]
  rfl

omit [FloatOps F] in
theorem held_arrays (W : Valuation τ sig (Elt F)) :
    (held (T d) arrays W : sProp 𝕄) = iprop((xLoc d ↦{fullShare} W (ref main_arg0)) ∗ (bLoc d ↦{fullShare} W (ref main_arg1))
      ∗ ((SparseCore.T d).loc main_cst ↦{fullShare} W (ref main_cst)) ∗ ((SparseCore.T d).loc main_v0 ↦{fullShare} W (ref main_v0))
      ∗ (vLoc d ↦{fullShare} W (ref main_v1)) ∗ oLoc d ↦{fullShare} W (ref main_v2)) := by
  unfold held arrays
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem launch_arrays : (unscopedBufs d (fun b => m ((SparseCore.T d).loc b)) : sProp 𝕄) = held (T d) arrays (before m d) := by
  unfold unscopedBufs
  rw [show (Finset.univ.filter fun b : Ref sig .tc => ¬ b.isScoped) = {main_arg0, main_arg1, main_cst, main_v0, main_v1, main_v2} by decide,
    SparseCore.bigSep_insert' (by decide), SparseCore.bigSep_insert' (by decide), SparseCore.bigSep_insert' (by decide),
    SparseCore.bigSep_insert' (by decide), SparseCore.bigSep_insert' (by decide), bigSep_singleton, held_arrays]
  rfl

/-! ## The run -/

/-- What the program leaves: the arguments as they were, the result coded. -/
abbrev left (d : Dev nD) : sProp 𝕄 :=
  iprop((xLoc d ↦{fullShare} m (xLoc d)) ∗ (bLoc d ↦{fullShare} m (bLoc d)) ∗ oLoc d ↦{fullShare} coded d (m (xLoc d)) (binOf (edges (m (bLoc d)))))

/-- The call's payloads at this memory. -/
abbrev PM : (K (F := F)).Pay (nD := nD) (Val := Elt F) (Name := ℕ) (U := UU) := P (fun d => m (xLoc d)) fun d => edges (m (bLoc d))

theorem st_every : (bigSep Finset.univ fun c : Fin ((K (F := F)).nCore 0) => (PM m).st 0 d c) = every fun L => given d L (m (xLoc d)) (edges (m (bLoc d))) :=
  cores_every fun L => given d L (m (xLoc d)) (edges (m (bLoc d)))

theorem dn_every : (bigSep Finset.univ fun c : Fin ((K (F := F)).nCore 0) => (PM m).dn 0 d c) = every fun L => back d L (m (xLoc d)) (edges (m (bLoc d))) :=
  cores_every fun L => back d L (m (xLoc d)) (edges (m (bLoc d)))

variable (ρ : Dev nD → PrngReg)

/-- The host program on a device: pad, call, return. -/
theorem host (κ : GSem nD τ sig → ℕ) (d : Dev nD) :
    iprop((K (F := F)).ctx EH (PM m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ left m d ∗ (K (F := F)).tcEnd d) := by
  unfold SparseCore.Cfg.tcRes SparseCore.Cfg.tcEnd
  rw [launch_arrays]
  simp only [main, wp_bind, wp_pure]
  iintro ⟨#Hctx, Hst, ⟨Hb, Hheld, Hts, -⟩, -⟩
  iapply (wp_hlo_within 𝒱 (SparseCore.T d) none Set.univ (op := opInf) (S := arrays) (show ({ref main_cst} : Finset (DevRef τ sig)) ⊆ arrays by decide)
    (V := before m d)) $$ [Hb Hheld]
  · isplitl [Hb]; · iexact Hb
    iexact Hheld
  iintro ⟨Hb, Hheld⟩
  rw [wp_ret]; imodintro
  iapply (wp_hlo_within 𝒱 (SparseCore.T d) none Set.univ (op := opFill) (S := arrays)
    (show ({ref main_cst, ref main_v0} : Finset (DevRef τ sig)) ⊆ arrays by decide) (V := opInf.result (before m d))) $$ [Hb Hheld]
  · isplitl [Hb]; · iexact Hb
    iexact Hheld
  iintro ⟨Hb, Hheld⟩
  rw [wp_ret]; imodintro
  iapply (wp_hlo_within 𝒱 (SparseCore.T d) none Set.univ (op := opPad) (S := arrays)
    (show ({ref main_arg1, ref main_v0, ref main_v1} : Finset (DevRef τ sig)) ⊆ arrays by decide) (V := opFill.result (opInf.result (before m d)))) $$ [Hb Hheld]
  · isplitl [Hb]; · iexact Hb
    iexact Hheld
  iintro ⟨Hb, Hheld⟩
  rw [wp_ret]; imodintro
  ihave Hh := (Entails.of_eq (show held (T d) arrays (opPad.result (opFill.result (opInf.result (before m d))))
    = iprop((xLoc d ↦{fullShare} m (xLoc d)) ∗ (bLoc d ↦{fullShare} m (bLoc d))
      ∗ ((SparseCore.T d).loc main_cst ↦{fullShare} padded m d (ref main_cst)) ∗ ((SparseCore.T d).loc main_v0 ↦{fullShare} padded m d (ref main_v0))
      ∗ (vLoc d ↦{fullShare} edges (m (bLoc d))) ∗ oLoc d ↦{fullShare} m (oLoc d)) from by
        rw [held_arrays, ← padded_edges, ← padded_other d m (r := main_arg0) (by decide) (by decide) (by decide),
          ← padded_other d m (r := main_arg1) (by decide) (by decide) (by decide), ← padded_other d m (r := main_v2) (by decide) (by decide) (by decide)]
        rfl)) $$ Hheld
  icases Hh with ⟨Hx, Hbins, -, -, Hv, Ho⟩
  iapply ((K (F := F)).wp_run (D (F := F)) 𝒱 (EH := EH) (P := PM m) κ d 0) $$ [Hst Hx Hv Ho Hb Hts Hbins]
  isplitr; · iexact Hctx
  isplitl [Hst]; · iexact Hst
  isplitl [Hx Hv Ho]
  · rw [st_every]
    iapply (given_every d (m (xLoc d)) (edges (m (bLoc d))) (m (oLoc d)))
    isplitl [Hv]; · iexact Hv
    isplitl [Hx]; · iexact Hx
    iexact Ho
  iintro ⟨Hst, Hdn⟩
  ihave Hdn' := (Entails.of_eq (dn_every d m)) $$ Hdn
  ihave H := (back_every d (m (xLoc d)) (edges (m (bLoc d)))) $$ Hdn'
  icases H with ⟨Hx, Ho⟩
  imodintro
  isplitl [Hst]; · iexact Hst
  isplitl [Hx Hbins Ho]
  · isplitl [Hx]; · iexact Hx
    isplitl [Hbins]; · iexact Hbins
    iexact Ho
  isplitl [Hb] <;> iassumption

/-- What the final memory then holds. -/
def kept (d : Dev nD) (s : Phys nD τ sig (Elt F)) : Prop :=
  s.mem.mem (xLoc d) = m (xLoc d) ∧ s.mem.mem (bLoc d) = m (bLoc d)
    ∧ s.mem.mem (oLoc d) = coded d (m (xLoc d)) (binOf (edges (m (bLoc d))))

theorem reads (d : Dev nD) (s : Phys nD τ sig (Elt F)) : iprop(left m d ∗ SI s) ⊢ (⌜kept m d s⌝ : sProp 𝕄) := by
  iintro ⟨⟨Hx, Hb, Ho⟩, HSI⟩
  ihave H := (persistent_entails_right (SI_pointsTo_agree (st := s) (ℓ := xLoc d) (I := Finset.univ) (q := fullShare) (f := m (xLoc d)))) $$ [HSI Hx]
  · isplitl [HSI] <;> iassumption
  icases H with ⟨%hx, HSI, -⟩
  ihave H := (persistent_entails_right (SI_pointsTo_agree (st := s) (ℓ := bLoc d) (I := Finset.univ) (q := fullShare) (f := m (bLoc d)))) $$ [HSI Hb]
  · isplitl [HSI] <;> iassumption
  icases H with ⟨%hb, HSI, -⟩
  ihave H := (SI_pointsTo_agree (st := s) (ℓ := oLoc d) (I := Finset.univ) (q := fullShare)
    (f := coded d (m (xLoc d)) (binOf (edges (m (bLoc d)))))) $$ [HSI Ho]
  · isplitl [HSI] <;> iassumption
  icases H with %ho
  ipureintro
  exact ⟨funext fun i => hx i (Finset.mem_univ i), funext fun i => hb i (Finset.mem_univ i), funext fun i => ho i (Finset.mem_univ i)⟩

/-- The ghost state at the launch: the handshakes' rounds, and no counter. -/
def u₀ : UU := (initOf (K (F := F)).hsCells (K (F := F)).hsToks, 1)

theorem launch_ghost : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (PM m).x q thr) := by
  have none (I : Type) (s : Finset I) : (bigSep s fun _ => iprop(emp)) = (iprop(emp) : sProp 𝕄) := bigSep_emp_const s
  unfold u₀
  iintro Hu
  ihave H := (ownU_pair _ _) $$ Hu
  icases H with ⟨HH, -⟩
  imodintro
  isplitl [HH]; · iexact HH
  isplitr; · rw [none]; iempintro
  show _ ⊢ (bigSep Finset.univ fun _ : Thread nD τ => bigSep Finset.univ fun _ : Fin 1 => (iprop(emp) : sProp 𝕄))
  rw [bigSep_congr fun _ _ => none _ _, none]

/-- The program runs to an end with the arguments as they were, the result coded, and every semaphore at rest. -/
theorem run_main [∀ e, Nonempty (Elt F e)] :
    θ_run (Cert.KernelIdeal.defs (F := F)) (Cert.KernelIdeal.threads (F := F)) ⟨m, fun _ => 0, ρ⟩
      fun r => (∀ d : Dev nD, r.2.mem (xLoc d) = m (xLoc d) ∧ r.2.mem (bLoc d) = m (bLoc d)
        ∧ r.2.mem (oLoc d) = coded d (m (xLoc d)) (binOf (edges (m (bLoc d))))) ∧ r.2.sem = fun _ => 0 :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tiles _ _ facts)
    (fun q _ => match q with | 0 => SparseCore.Cfg.VecSplit.of_plain (shares_out _ _))
    m ρ main (fun _ => iprop(emp)) (left m) (u₀ (F := F)) (sep_elim_left.trans (launch_ghost m)) (host m ρ) (kept m) (reads m) _ (fun _ h hz => ⟨h, hz⟩)

end Cert.Digi
-- ==== Proof.Value.lean ====
/-
  At the extended reals the code of an element is the number of edges at or below it. The edges at or below `x` are the
  first `N` of the sixteen, since the nine given are sorted and the others are infinite; the four steps of the search
  then find `N`, whatever it is; and `N` is what the reference counts.
-/
module

public import proofs.«01_k».proof.Proof.Main
public import proofs.«01_k».proof.Proof.Gen.ReferenceIdeal.Run
public import proofs.«01_k».proof.Proof.Gen.Pre_in_range
public import Idealize.ShloMosaic.Lib.StableHlo.Predicate
public import Idealize.ShloMosaic.Lib.ReduceAll
public import Idealize.ShloMosaic.Lib.Pointwise.SelectCore
public import Idealize.ShloMosaic.PureOps.Ideal

@[expose] public section

noncomputable section

namespace Cert.Digi

open Idealize.ShloMosaic
open Cert.KernelIdeal (S7 S9 S16 S16777216 nD τ sig)

/-! ## The search finds how many edges lie at or below -/

section Search

variable {B : Vec Ideal S16 .f32} {x : Elt Ideal .f32} {N : ℕ}

/-- The edges at or below `x` are the first `N`. -/
def Below (B : Vec Ideal S16 .f32) (x : Elt Ideal .f32) (N : ℕ) : Prop := ∀ l : S16.Idx, (show EReal from B l) ≤ x ↔ (l 0).val < N

theorem lane_val (c : BitVec 32) : (lane c 0).val = c.toNat % 16 := rfl

/-- One comparison, by the place of its edge. -/
theorem bit_at (h : Below B x N) (n c : BitVec 32) : bit n x (B (lane c)) = if c.toNat % 16 < N then n else 0#32 := by
  have e : FloatOps.cmpf (F := Ideal) (φ := .f32) .oge x (B (lane c)) = BitVec.ofBool (decide ((show EReal from B (lane c)) ≤ x)) := rfl
  unfold bit Scalar.select
  rw [e]
  by_cases hc : c.toNat % 16 < N
  · rw [decide_eq_true ((h (lane c)).mpr hc), if_pos hc]
    rfl
  · rw [decide_eq_false fun hle => hc ((h (lane c)).mp hle), if_neg hc]
    rfl

/-- The four steps find `N`. -/
theorem binOf_at (h : Below B x N) (hN : N < 16) : binOf B x = BitVec.ofNat 32 N := by
  unfold binOf walk down tab
  simp only [bit_at h, lane_val]
  interval_cases N <;> decide

end Search

/-! ## The edges at or below `x` are the first ones -/

/-- Nine things, each of which has `p` if the next one has: those with `p` are the first, as many as there are. -/
theorem first_ones (p : ℕ → Prop) [DecidablePred p] (M : ℕ) (h : ∀ k, k + 1 < M → p (k + 1) → p k) :
    ∃ N ≤ M, (∀ k < M, p k ↔ k < N) ∧ ((Finset.range M).filter p).card = N := by
  induction M with
  | zero => exact ⟨0, le_rfl, fun k hk => absurd hk (Nat.not_lt_zero k), rfl⟩
  | succ M ih =>
    obtain ⟨N, hN, hp, hc⟩ := ih fun k hk => h k (by omega)
    by_cases hM : p M
    · have all : N = M := by
        rcases Nat.eq_zero_or_pos M with rfl | pos
        · omega
        · have := (hp (M - 1) (by omega)).mp (h (M - 1) (by omega) (by rwa [Nat.sub_add_cancel pos]))
          omega
      refine ⟨M + 1, le_rfl, fun k hk => ?_, ?_⟩
      · rcases Nat.lt_succ_iff_lt_or_eq.mp hk with hk | rfl
        · exact ⟨fun _ => by omega, fun _ => (hp k hk).mpr (by omega)⟩
        · exact ⟨fun _ => by omega, fun _ => hM⟩
      · rw [Finset.range_add_one, Finset.filter_insert, if_pos hM, Finset.card_insert_of_notMem (by simp), hc, all]
    · refine ⟨N, by omega, fun k hk => ?_, ?_⟩
      · rcases Nat.lt_succ_iff_lt_or_eq.mp hk with hk | rfl
        · exact hp k hk
        · exact ⟨fun hk' => absurd hk' hM, fun hk' => absurd hk' (by omega)⟩
      · rw [Finset.range_add_one, Finset.filter_insert, if_neg hM, hc]

/-- The place `k` of the nine edges given. -/
def nine (k : Fin 9) : S9.Idx := fun a => ⟨k.val, by
  obtain rfl : a = 0 := Subsingleton.elim _ _
  exact k.isLt⟩

theorem top_word : FloatOps.ofBits (F := Ideal) .f32 0x7F800000#32 = (⊤ : EReal) := by
  simp [Ideal.ofBits, Ideal.ieee]

/-- A padded edge is a given one, or infinite. -/
theorem edges_at (b : Vec Ideal S9 .f32) (l : S16.Idx) :
    edges (F := Ideal) b l = if h : (l 0).val < 9 then b (nine ⟨(l 0).val, h⟩) else (⊤ : EReal) := by
  unfold edges
  refine (concatenate_pair_apply (0 : Fin S16.rank) _ _ Cert.KernelIdeal.Gen.concatenates_S9_S7_S16_d0 l).trans ?_
  by_cases h : (l 0).val < 9
  · refine (dif_pos h).trans ?_
    rw [dif_pos h]
    refine congrArg b (funext fun a => ?_)
    obtain rfl : a = 0 := Subsingleton.elim _ _
    rfl
  · refine (dif_neg h).trans ?_
    rw [dif_neg h]
    exact top_word

/-- The nine edges are sorted. -/
def Sorted (b : Vec Ideal S9 .f32) : Prop := ∀ k (h : k + 1 < 9), (show EReal from b (nine ⟨k, by omega⟩)) ≤ b (nine ⟨k + 1, h⟩)

open Classical in
/-- The number of edges at or below `x`. -/
def count (b : Vec Ideal S9 .f32) (x : Elt Ideal .f32) : ℕ := (Finset.univ.filter fun k : Fin 9 => (show EReal from b (nine k)) ≤ x).card

/-- The code of an element is that number. -/
theorem code_count {b : Vec Ideal S9 .f32} {x : Elt Ideal .f32} (hb : Sorted b) (hx : (show EReal from x) < ⊤) :
    binOf (edges b) x = BitVec.ofNat 32 (count b x) := by
  classical
  obtain ⟨N, hN, hp, hc⟩ := first_ones (fun k => ∃ h : k < 9, (show EReal from b (nine ⟨k, h⟩)) ≤ x) 9
    fun k hk ⟨h, hle⟩ => ⟨by omega, (hb k hk).trans hle⟩
  have e : count b x = N := by
    rw [← hc]
    unfold count
    refine Finset.card_bij (fun k _ => k.val) (fun k hk => ?_) (fun k _ k' _ e => Fin.ext e) (fun k hk => ?_)
    · exact Finset.mem_filter.mpr ⟨Finset.mem_range.mpr k.isLt, k.isLt, (Finset.mem_filter.mp hk).2⟩
    · obtain ⟨h, hle⟩ := (Finset.mem_filter.mp hk).2
      exact ⟨⟨k, h⟩, Finset.mem_filter.mpr ⟨Finset.mem_univ _, hle⟩, rfl⟩
  rw [e]
  refine binOf_at (fun l => ?_) (by omega)
  rw [edges_at]
  by_cases h : (l 0).val < 9
  · rw [dif_pos h, ← hp _ h]
    exact ⟨fun hle => ⟨h, hle⟩, fun ⟨_, hle⟩ => hle⟩
  · rw [dif_neg h]
    exact ⟨fun hle => absurd (lt_of_le_of_lt hle hx) (lt_irrefl _), fun hl => absurd hl (by omega)⟩

/-! ## What the precondition says -/

theorem bit_true (p : Prop) [Decidable p] (h : BitVec.ofBool (decide p) = 1#1) : p := by
  by_contra hp
  rw [decide_eq_false hp] at h
  exact absurd h (by decide)

theorem and_true {a b : BitVec 1} (h : IntOp.andi a b = 1#1) : a = 1#1 ∧ b = 1#1 := by
  revert a b; decide

/-- An edge of a run of the edges is the one given there. -/
theorem slice_at (b : Vec Ideal S9 .f32) (o : ℕ) (h : S9.Slices ![o] Cert.Pre_in_range.S8) (l : Cert.Pre_in_range.S8.Idx) (k : Fin 9)
    (hk : o + (l 0).val = k.val) : extractStridedSlice Cert.Pre_in_range.S8 ![o] b h l = b (nine k) := by
  refine congrArg b (funext fun a => ?_)
  obtain rfl : a = 0 := Subsingleton.elim _ _
  exact Fin.ext hk

/-- The input is below infinity and the edges are sorted. -/
theorem of_pre {X : Vec Ideal S16777216 .f32} {b : Vec Ideal S9 .f32} (h : Cert.Pre_in_range.fn (F := Ideal) X b = fun _ => 1#1) :
    (∀ i, (show EReal from X i) < ⊤) ∧ Sorted b := by
  have h0 := congrFun h (fun a => a.elim0)
  obtain ⟨h1, h2⟩ := and_true h0
  constructor
  · intro i
    have e := Host.reduce_andi_all _ _ _ _ _ h1 i
    have e' : (show EReal from X i) < FloatOps.ofBits (F := Ideal) .f32 0x7F800000#32 := bit_true _ e
    rwa [top_word] at e'
  · intro k hk
    have e := bit_true _ (Host.reduce_andi_all _ _ _ _ _ h2 (Shape.Idx.ofFin (⟨k, by omega⟩ : Fin 8)))
    beta_reduce at e
    rw [slice_at b 0 _ (Shape.Idx.ofFin (⟨k, by omega⟩ : Fin 8)) ⟨k, by omega⟩ (Nat.zero_add k),
      slice_at b 1 _ (Shape.Idx.ofFin (⟨k, by omega⟩ : Fin 8)) ⟨k + 1, hk⟩ (Nat.add_comm 1 k)] at e
    exact e

/-! ## What the reference computes -/

open Cert.ReferenceIdeal Cert.ReferenceIdeal.Gen in
/-- The reference's term at an index is the number of edges at or below the element there. -/
theorem reference_count (X : Vec Ideal Cert.KernelIdeal.S16777216 .f32) (b : Vec Ideal Cert.KernelIdeal.S9 .f32)
    (i : Cert.KernelIdeal.S16777216.Idx) :
    Host.reduce IntOp.addi (extui 32 (cmpf (F := Ideal) (φ := .f32) .ole
      (broadcastInDim S16777216x9 ![0, 1] bcast_S1x9_S16777216x9_0_1 (broadcastInDim S1x9 ![1] bcast_S9_S1x9_1 b))
      (broadcastInDim S16777216x9 ![0, 1] bcast_S16777216x1_S16777216x9_0_1
        (broadcastInDim S16777216x1 ![0] bcast_S16777216_S16777216x1_0 X))) natLt_1_32)
      (constantI S_ 32 0#32) reducesTo_S16777216x9_S16777216_d1 h_S_ i
      = BitVec.ofNat 32 (count b (X i)) := by
  classical
  apply BitVec.eq_of_toNat_eq
  have hlt : count b (X i) < 2 ^ 32 := lt_of_le_of_lt (Finset.card_le_univ _) (by rw [Fintype.card_fin]; decide)
  rw [BitVec.toNat_ofNat, Nat.mod_eq_of_lt hlt]
  refine (StableHlo.Predicate.toNat_reduce_count_cols (n := 16777216) (m := 9) (by decide) _ _ _ _ i).trans ?_
  unfold count
  refine congrArg Finset.card (Finset.filter_congr fun k _ => ?_)
  have hb := StableHlo.Predicate.bcast_cols bcast_S9_S1x9_1 bcast_S1x9_S16777216x9_0_1 b (i 0) k
  have hX := StableHlo.Predicate.bcast_rows bcast_S16777216_S16777216x1_0 bcast_S16777216x1_S16777216x9_0_1 X (i 0) k
  have eb : (Shape.Idx.ofFin k : Cert.KernelIdeal.S9.Idx) = nine k := funext fun a => by
    obtain rfl : a = 0 := Subsingleton.elim _ _
    rfl
  have eX : (Shape.Idx.ofFin (i 0) : Cert.KernelIdeal.S16777216.Idx) = i := funext fun a => by
    obtain rfl : a = 0 := Subsingleton.elim _ _
    rfl
  rw [eb] at hb
  rw [eX] at hX
  refine (Eq.congr_left (congrArg₂ (FloatOps.cmpf (F := Ideal) (φ := .f32) .ole) hb hX)).trans ?_
  exact ⟨bit_true _, fun hle => congrArg BitVec.ofBool (decide_eq_true hle)⟩

/-- The two computations agree. -/
theorem code_eq {X : Vec Ideal Cert.KernelIdeal.S16777216 .f32} {b : Vec Ideal Cert.KernelIdeal.S9 .f32}
    (h : Cert.Pre_in_range.fn (F := Ideal) X b = fun _ => 1#1) (i : Cert.KernelIdeal.S16777216.Idx) :
    binOf (edges b) (X i) = BitVec.ofNat 32 (count b (X i)) :=
  code_count (of_pre h).2 ((of_pre h).1 i)

end Cert.Digi

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Gen.ReferenceIdeal.Run
public import proofs.«01_k».proof.Proof.Main
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel's run, over the machine words: it ends, with its arguments as they were and its counters at zero. -/
theorem frame_kernel : Cert.quiescent_Kernel := fun m ρ _ =>
  (θ_run Cert.KernelIdeal.defs _ _).mono (fun _ h => ⟨fun c => ⟨(h.1 c).1, (h.1 c).2.1⟩, h.2⟩) (Cert.Digi.run_main (F := Bits) m ρ)

/-- The same over the extended reals. -/
theorem frame_ideal : Cert.quiescent_KernelIdeal := fun m ρ _ =>
  (θ_run Cert.KernelIdeal.defs _ _).mono (fun _ h => ⟨fun c => ⟨(h.1 c).1, (h.1 c).2.1⟩, h.2⟩) (Cert.Digi.run_main (F := Ideal) m ρ)

/-- The reference's run. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩) (Cert.ReferenceIdeal.Value.run (F := Ideal) m ρ)

/-- From arguments that agree and lie in the range, the two programs end with the same result. -/
theorem same_result : Cert.algebraic_KernelIdeal_ReferenceIdeal_pre_in_range := fun m ρ m' ρ' hpre hsame =>
  ⟨fun c => Cert.Digi.coded c (m (Cert.Digi.xLoc c)) (Cert.Digi.binOf (Cert.Digi.edges (m (Cert.Digi.bLoc c)))),
    (θ_run Cert.KernelIdeal.defs _ _).mono (fun _ h c => ⟨(h.1 c).2.2, (h.1 c).1, (h.1 c).2.1⟩) (Cert.Digi.run_main (F := Ideal) m ρ),
    (θ_run Cert.ReferenceIdeal.defs _ _).mono
      (fun _ h c => ⟨(h c).1.trans (funext fun i => by
          rw [(hsame c).1, (hsame c).2]
          exact (Cert.Digi.reference_count _ _ i).trans (Cert.Digi.code_eq (hpre c) i).symm), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_in_range.Gen.facts,
  frame_kernel, frame_ideal, fun m ρ _ => frame_ideal m ρ trivial, frame_reference, fun m ρ _ => frame_reference m ρ trivial, trivial, same_result⟩

end Cert.Proof

end
